-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x256x768 .f32) (main_arg1 : FVec F S768x512 .f32) (main_arg2 : FVec F S2x512x8x64 .f32) (main_arg3 : FVec F S2x512x8x64 .f32) (main_arg4 : FVec F S512x768 .f32) : IVec S2x256x768 1 × IVec S768x512 1 × IVec S2x512x8x64 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_scores_finite_ReferenceIdeal.lean ====
abbrev S2x256x768 : Shape := ⟨3, ![2, 256, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  bcast_S_S768x512 : S_.BroadcastsInDim S768x512 (![] : Fin 0 → Fin S768x512.rank)
  bcast_S_S2x4096x8x64 : S_.BroadcastsInDim S2x4096x8x64 (![] : Fin 0 → Fin S2x4096x8x64.rank)

variable [Facts]

def fn {F : FTy → Type} [FloatOps F] (main_arg0 : FVec F S2x256x768 .f32) (main_arg1 : FVec F S768x512 .f32) (main_arg2 : FVec F S2x4096x8x64 .f32) (main_arg3 : FVec F S2x4096x8x64 .f32) (main_arg4 : FVec F S512x768 .f32) : IVec S2x256x768 1 × IVec S768x512 1 × IVec S2x4096x8x64 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x4096x8x64 .f32 := Host.absf main_arg2
  let main_cst_1 : FVec F S_ .f32 := constant S_ .f32 0x7F800000#32
  let main_v7 : FVec F S2x4096x8x64 .f32 := broadcastInDim S2x4096x8x64 ![] bcast_S_S2x4096x8x64 main_cst_1
  let main_v8 : IVec S2x4096x8x64 1 := cmpf .olt main_v6 main_v7
  (main_v2, main_v5, main_v8)
-- ==== Kernel.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S4x9x256x128 : Shape := ⟨4, ![4, 9, 256, 128]⟩
abbrev S3 : Shape := ⟨1, ![3]⟩
abbrev S_ : Shape := ⟨0, ![]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S1x512x1x64 : Shape := ⟨4, ![1, 512, 1, 64]⟩
abbrev S512x64 : Shape := ⟨2, ![512, 64]⟩
abbrev S256 : Shape := ⟨1, ![256]⟩
abbrev S256x1 : Shape := ⟨2, ![256, 1]⟩
abbrev S256x128 : Shape := ⟨2, ![256, 128]⟩
abbrev S1x1x256x128 : Shape := ⟨4, ![1, 1, 256, 128]⟩
abbrev S256x16 : Shape := ⟨2, ![256, 16]⟩
abbrev S256x112 : Shape := ⟨2, ![256, 112]⟩
abbrev S1 : Shape := ⟨1, ![1]⟩
abbrev S1x9x256x128 : Shape := ⟨4, ![1, 9, 256, 128]⟩
abbrev S9x256x128 : Shape := ⟨3, ![9, 256, 128]⟩
abbrev S1x1x256x64 : Shape := ⟨4, ![1, 1, 256, 64]⟩
abbrev S1x1x256x1 : Shape := ⟨4, ![1, 1, 256, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S2x512x8x64, .f32⟩
  | .local _ .vmem, ⟨4, _⟩ => ⟨S2x512x8x64, .f32⟩
  | .local _ .vmem, ⟨5, _⟩ => ⟨S2x256x768, .f32⟩
  | .local _ .vmem, ⟨6, _⟩ => ⟨S4x9x256x128, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_240 : BitVec 32 := 1#32
  let v262 : BitVec 32 := Scalar.xori v2 c1_i32_240
  let c1_i32_245 : BitVec 32 := 1#32
  let v263 : BitVec 32 := Scalar.muli v262 c1_i32_245
  let v264 : BitVec 32 := Scalar.addi c0_i32_246 v263
  v264.toNat
def k0_dev5 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_288 : BitVec 32 := 2#32
  let v295 : BitVec 32 := Scalar.xori v2 c2_i32_288
  let c1_i32_293 : BitVec 32 := 1#32
  let v296 : BitVec 32 := Scalar.muli v295 c1_i32_293
  let v297 : BitVec 32 := Scalar.addi c0_i32_294 v296
  v297.toNat
def k0_dev6 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_336 : BitVec 32 := 4#32
  let v328 : BitVec 32 := Scalar.xori v2 c4_i32_336
  let c1_i32_341 : BitVec 32 := 1#32
  let v329 : BitVec 32 := Scalar.muli v328 c1_i32_341
  let v330 : BitVec 32 := Scalar.addi c0_i32_342 v329
  v330.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S2x4096x8x64 : Shape := ⟨4, ![2, 4096, 8, 64]⟩
abbrev S512x768 : Shape := ⟨2, ![512, 768]⟩
abbrev S2x256x512 : Shape := ⟨3, ![2, 256, 512]⟩
abbrev S2x256x8x64 : Shape := ⟨4, ![2, 256, 8, 64]⟩
abbrev S_ : Shape := ⟨0, ![]⟩
abbrev S2x8x256x1 : Shape := ⟨4, ![2, 8, 256, 1]⟩
abbrev S2x1024x8x64 : Shape := ⟨4, ![2, 1024, 8, 64]⟩
abbrev S2x8x256x1024 : Shape := ⟨4, ![2, 8, 256, 1024]⟩
abbrev S2x8x256 : Shape := ⟨3, ![2, 8, 256]⟩
abbrev S2x256x8x1 : Shape := ⟨4, ![2, 256, 8, 1]⟩
abbrev S2x8x64x256 : Shape := ⟨4, ![2, 8, 64, 256]⟩

abbrev nBuf : Space → Nat
  | .hbm => 122
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x4096x8x64, .f32⟩
  | .hbm, ⟨3, _⟩ => ⟨S2x4096x8x64, .f32⟩
  | .hbm, ⟨4, _⟩ => ⟨S512x768, .f32⟩
  | .hbm, ⟨5, _⟩ => ⟨S2x256x512, .f32⟩
  | .hbm, ⟨6, _⟩ => ⟨S2x256x8x64, .f32⟩
  | .hbm, ⟨7, _⟩ => ⟨S_, .f32⟩
  | .hbm, ⟨8, _⟩ => ⟨S2x256x8x64, .f32⟩
  | .hbm, ⟨9, _⟩ => ⟨S_, .f32⟩
  | .hbm, ⟨10, _⟩ => ⟨S2x8x256x1, .f32⟩
  | .hbm, ⟨11, _⟩ => ⟨S_, .f32⟩
  | .hbm, ⟨12, _⟩ => ⟨S2x8x256x1, .f32⟩
  | .hbm, ⟨13, _⟩ => ⟨S2x1024x8x64, .f32⟩
  | .hbm, ⟨14, _⟩ => ⟨S2x1024x8x64, .f32⟩
  | .hbm, ⟨15, _⟩ => ⟨S2x8x256x1024, .f32⟩
  | .hbm, ⟨16, _⟩ => ⟨S_, .f32⟩
  | .hbm, ⟨17, _⟩ => ⟨S2x8x256x1024, .f32⟩
  | .hbm, ⟨18, _⟩ => ⟨S2x8x256x1024, .f32⟩
  | .hbm, ⟨19, _⟩ => ⟨S_, .f32⟩
  | .hbm, ⟨20, _⟩ => ⟨S2x8x256, .f32⟩
  | .hbm, ⟨21, _⟩ => ⟨S2x8x256x1, .f32⟩
  | .hbm, ⟨22, _⟩ => ⟨S2x8x256x1, .f32⟩
  | .hbm, ⟨23, _⟩ => ⟨S2x8x256x1, .f32⟩
  | .hbm, ⟨24, _⟩ => ⟨S2x8x256x1, .f32⟩
  | .hbm, ⟨25, _⟩ => ⟨S2x8x256x1024, .f32⟩
  | .hbm, ⟨26, _⟩ => ⟨S2x8x256x1024, .f32⟩
  | .hbm, ⟨27, _⟩ => ⟨S2x8x256x1024, .f32⟩
  | .hbm, ⟨28, _⟩ => ⟨S2x8x256x1, .f32⟩
  | .hbm, ⟨29, _⟩ => ⟨S_, .f32⟩
  | .hbm, ⟨30, _⟩ => ⟨S2x8x256, .f32⟩
  | .hbm, ⟨31, _⟩ => ⟨S2x8x256x1, .f32⟩
  | .hbm, ⟨32, _⟩ => ⟨S2x8x256x1, .f32⟩
  | .hbm, ⟨33, _⟩ => ⟨S2x256x8x1, .f32⟩
  | .hbm, ⟨34, _⟩ => ⟨S2x256x8x64, .f32⟩
  | .hbm, ⟨35, _⟩ => ⟨S2x256x8x64, .f32⟩
  | .hbm, ⟨36, _⟩ => ⟨S2x8x64x256, .f32⟩
  | .hbm, ⟨37, _⟩ => ⟨S2x256x8x64, .f32⟩
  | .hbm, ⟨38, _⟩ => ⟨S2x256x8x64, .f32⟩
  | .hbm, ⟨39, _⟩ => ⟨S2x1024x8x64, .f32⟩
  | .hbm, ⟨40, _⟩ => ⟨S2x1024x8x64, .f32⟩
  | .hbm, ⟨41, _⟩ => ⟨S2x8x256x1024, .f32⟩
  | .hbm, ⟨42, _⟩ => ⟨S_, .f32⟩
  | .hbm, ⟨43, _⟩ => ⟨S2x8x256x1024, .f32⟩
  | .hbm, ⟨44, _⟩ => ⟨S2x8x256x1024, .f32⟩
  | .hbm, ⟨45, _⟩ => ⟨S_, .f32⟩
  | .hbm, ⟨46, _⟩ => ⟨S2x8x256, .f32⟩
  | .hbm, ⟨47, _⟩ => ⟨S2x8x256x1, .f32⟩
  | .hbm, ⟨48, _⟩ => ⟨S2x8x256x1, .f32⟩
  | .hbm, ⟨49, _⟩ => ⟨S2x8x256x1, .f32⟩
  | .hbm, ⟨50, _⟩ => ⟨S2x8x256x1, .f32⟩
  | .hbm, ⟨51, _⟩ => ⟨S2x8x256x1024, .f32⟩
  | .hbm, ⟨52, _⟩ => ⟨S2x8x256x1024, .f32⟩
  | .hbm, ⟨53, _⟩ => ⟨S2x8x256x1024, .f32⟩
  | .hbm, ⟨54, _⟩ => ⟨S2x8x256x1, .f32⟩
  | .hbm, ⟨55, _⟩ => ⟨S_, .f32⟩
  | .hbm, ⟨56, _⟩ => ⟨S2x8x256, .f32⟩
  | .hbm, ⟨57, _⟩ => ⟨S2x8x256x1, .f32⟩
  | .hbm, ⟨58, _⟩ => ⟨S2x8x256x1, .f32⟩
  | .hbm, ⟨59, _⟩ => ⟨S2x256x8x1, .f32⟩
  | .hbm, ⟨60, _⟩ => ⟨S2x256x8x64, .f32⟩
  | .hbm, ⟨61, _⟩ => ⟨S2x256x8x64, .f32⟩
  | .hbm, ⟨62, _⟩ => ⟨S2x8x64x256, .f32⟩
  | .hbm, ⟨63, _⟩ => ⟨S2x256x8x64, .f32⟩
  | .hbm, ⟨64, _⟩ => ⟨S2x256x8x64, .f32⟩
  | .hbm, ⟨65, _⟩ => ⟨S2x1024x8x64, .f32⟩
  | .hbm, ⟨66, _⟩ => ⟨S2x1024x8x64, .f32⟩
  | .hbm, ⟨67, _⟩ => ⟨S2x8x256x1024, .f32⟩
  | .hbm, ⟨68, _⟩ => ⟨S_, .f32⟩
  | .hbm, ⟨69, _⟩ => ⟨S2x8x256x1024, .f32⟩
  | .hbm, ⟨70, _⟩ => ⟨S2x8x256x1024, .f32⟩
  | .hbm, ⟨71, _⟩ => ⟨S_, .f32⟩
  | .hbm, ⟨72, _⟩ => ⟨S2x8x256, .f32⟩
  | .hbm, ⟨73, _⟩ => ⟨S2x8x256x1, .f32⟩
  | .hbm, ⟨74, _⟩ => ⟨S2x8x256x1, .f32⟩
  | .hbm, ⟨75, _⟩ => ⟨S2x8x256x1, .f32⟩
  | .hbm, ⟨76, _⟩ => ⟨S2x8x256x1, .f32⟩
  | .hbm, ⟨77, _⟩ => ⟨S2x8x256x1024, .f32⟩
  | .hbm, ⟨78, _⟩ => ⟨S2x8x256x1024, .f32⟩
  | .hbm, ⟨79, _⟩ => ⟨S2x8x256x1024, .f32⟩
  | .hbm, ⟨80, _⟩ => ⟨S2x8x256x1, .f32⟩
  | .hbm, ⟨81, _⟩ => ⟨S_, .f32⟩
  | .hbm, ⟨82, _⟩ => ⟨S2x8x256, .f32⟩
  | .hbm, ⟨83, _⟩ => ⟨S2x8x256x1, .f32⟩
  | .hbm, ⟨84, _⟩ => ⟨S2x8x256x1, .f32⟩
  | .hbm, ⟨85, _⟩ => ⟨S2x256x8x1, .f32⟩
  | .hbm, ⟨86, _⟩ => ⟨S2x256x8x64, .f32⟩
  | .hbm, ⟨87, _⟩ => ⟨S2x256x8x64, .f32⟩
  | .hbm, ⟨88, _⟩ => ⟨S2x8x64x256, .f32⟩
  | .hbm, ⟨89, _⟩ => ⟨S2x256x8x64, .f32⟩
  | .hbm, ⟨90, _⟩ => ⟨S2x256x8x64, .f32⟩
  | .hbm, ⟨91, _⟩ => ⟨S2x1024x8x64, .f32⟩
  | .hbm, ⟨92, _⟩ => ⟨S2x1024x8x64, .f32⟩
  | .hbm, ⟨93, _⟩ => ⟨S2x8x256x1024, .f32⟩
  | .hbm, ⟨94, _⟩ => ⟨S_, .f32⟩
  | .hbm, ⟨95, _⟩ => ⟨S2x8x256x1024, .f32⟩
  | .hbm, ⟨96, _⟩ => ⟨S2x8x256x1024, .f32⟩
  | .hbm, ⟨97, _⟩ => ⟨S_, .f32⟩
  | .hbm, ⟨98, _⟩ => ⟨S2x8x256, .f32⟩
  | .hbm, ⟨99, _⟩ => ⟨S2x8x256x1, .f32⟩
  | .hbm, ⟨100, _⟩ => ⟨S2x8x256x1, .f32⟩
  | .hbm, ⟨101, _⟩ => ⟨S2x8x256x1, .f32⟩
  | .hbm, ⟨102, _⟩ => ⟨S2x8x256x1, .f32⟩
  | .hbm, ⟨103, _⟩ => ⟨S2x8x256x1024, .f32⟩
  | .hbm, ⟨104, _⟩ => ⟨S2x8x256x1024, .f32⟩
  | .hbm, ⟨105, _⟩ => ⟨S2x8x256x1024, .f32⟩
  | .hbm, ⟨106, _⟩ => ⟨S2x8x256x1, .f32⟩
  | .hbm, ⟨107, _⟩ => ⟨S_, .f32⟩
  | .hbm, ⟨108, _⟩ => ⟨S2x8x256, .f32⟩
  | .hbm, ⟨109, _⟩ => ⟨S2x8x256x1, .f32⟩
  | .hbm, ⟨110, _⟩ => ⟨S2x8x256x1, .f32⟩
  | .hbm, ⟨111, _⟩ => ⟨S2x256x8x1, .f32⟩
  | .hbm, ⟨112, _⟩ => ⟨S2x256x8x64, .f32⟩
  | .hbm, ⟨113, _⟩ => ⟨S2x256x8x64, .f32⟩
  | .hbm, ⟨114, _⟩ => ⟨S2x8x64x256, .f32⟩
  | .hbm, ⟨115, _⟩ => ⟨S2x256x8x64, .f32⟩
  | .hbm, ⟨116, _⟩ => ⟨S2x256x8x64, .f32⟩
  | .hbm, ⟨117, _⟩ => ⟨S2x256x8x1, .f32⟩
  | .hbm, ⟨118, _⟩ => ⟨S2x256x8x64, .f32⟩
  | .hbm, ⟨119, _⟩ => ⟨S2x256x8x64, .f32⟩
  | .hbm, ⟨120, _⟩ => ⟨S2x256x512, .f32⟩
  | .hbm, ⟨121, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.KernelIdeal.Vals.lean ====
/-
# What every buffer of the kernel holds

Plain functions of the launch contents `m`: the heads' partial sums each device computes from its own
key and value rows, the nine rows it packs them into, the three sums of the exchange, and the result.
Everything is written once, for any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe

variable {F : FTy → Type} [FloatOps F]

/-! ## The memrefs -/

abbrev xM : Memref sig .tc .vmem S2x256x768 .f32 := Memref.whole cc0_stg0_0
abbrev wM : Memref sig .tc .vmem S768x512 .f32 := Memref.whole cc0_stg1_0
abbrev woM : Memref sig .tc .vmem S512x768 .f32 := Memref.whole cc0_stg2_0
abbrev kM : Memref sig .tc .vmem S2x512x8x64 .f32 := Memref.whole cc0_stg3_0
abbrev vM : Memref sig .tc .vmem S2x512x8x64 .f32 := Memref.whole cc0_stg4_0
abbrev oM : Memref sig .tc .vmem S2x256x768 .f32 := Memref.whole cc0_stg5_0
abbrev cM : Memref sig .tc .vmem S4x9x256x128 .bf16 := Memref.whole cc0_scratch0

/-! ## The rectangles, by batch, head, row and slot -/

/-- Batch `b` lies inside `x`, -/
theorem xInb (b : Fin 2) : ∀ a, (![b.val, 0, 0] : Fin 3 → Nat) a + S1x256x768.size a ≤ S2x256x768.size a := by revert b; decide
/-- head `h` of it inside the keys, -/
theorem kInb (b : Fin 2) (h : Fin 8) : ∀ a, (![b.val, 0, h.val, 0] : Fin 4 → Nat) a + S1x512x1x64.size a ≤ S2x512x8x64.size a := by revert b h; decide
/-- and inside the queries; -/
theorem qSlices (h : Fin 8) : S256x512.Slices ![0, 64 * h.val] S256x64 := by revert h; decide
/-- row `j` of slot 0, -/
theorem rowInb (j : Fin 9) : ∀ a, (![0, j.val, 0, 0] : Fin 4 → Nat) a + S1x1x256x128.size a ≤ S4x9x256x128.size a := by revert j; decide
/-- slot `k`, -/
theorem slotInb (k : Fin 4) : ∀ a, (![k.val, 0, 0, 0] : Fin 4 → Nat) a + S1x9x256x128.size a ≤ S4x9x256x128.size a := by revert k; decide
/-- half a row, -/
theorem aOInb (b : Fin 2) (h : Fin 8) : ∀ a, (![0, 4 * b.val + h.val / 2, 0, 64 * (h.val % 2)] : Fin 4 → Nat) a + S1x1x256x64.size a ≤ S4x9x256x128.size a := by
  revert b h; decide
/-- and a column of row 8 lie inside the exchange buffer. -/
theorem aLInb (b : Fin 2) (h : Fin 8) : ∀ a, (![0, 8, 0, 8 * b.val + h.val] : Fin 4 → Nat) a + S1x1x256x1.size a ≤ S4x9x256x128.size a := by
  revert b h; decide

/-- Batch `b` of `x`, and of the result. -/
abbrev xRect (b : Fin 2) : Rect S2x256x768 := Rect.unit (s := S2x256x768) ![b.val, 0, 0] S1x256x768.size (xInb b)
/-- All of `Wq`. -/
abbrev wRect : Rect S768x512 := Rect.unit (s := S768x512) ![0, 0] S768x512.size inb_S768x512_S768x512_0_0
/-- All of `Wo`. -/
abbrev woRect : Rect S512x768 := Rect.unit (s := S512x768) ![0, 0] S512x768.size inb_S512x768_S512x768_0_0
/-- Head `h` of batch `b` of the keys, and of the values. -/
abbrev kRect (b : Fin 2) (h : Fin 8) : Rect S2x512x8x64 := Rect.unit (s := S2x512x8x64) ![b.val, 0, h.val, 0] S1x512x1x64.size (kInb b h)
/-- Row `j` of slot 0. -/
abbrev rowRect (j : Fin 9) : Rect S4x9x256x128 := Rect.unit (s := S4x9x256x128) ![0, j.val, 0, 0] S1x1x256x128.size (rowInb j)
/-- Slot `k`. -/
abbrev slotRect (k : Fin 4) : Rect S4x9x256x128 := Rect.unit (s := S4x9x256x128) ![k.val, 0, 0, 0] S1x9x256x128.size (slotInb k)
/-- Where head `h` of batch `b` lies in slot 0: half a row. -/
abbrev aORect (b : Fin 2) (h : Fin 8) : Rect S4x9x256x128 :=
  Rect.unit (s := S4x9x256x128) ![0, 4 * b.val + h.val / 2, 0, 64 * (h.val % 2)] S1x1x256x64.size (aOInb b h)
/-- Where its sum of weights lies: a column of row 8. -/
abbrev aLRect (b : Fin 2) (h : Fin 8) : Rect S4x9x256x128 :=
  Rect.unit (s := S4x9x256x128) ![0, 8, 0, 8 * b.val + h.val] S1x1x256x1.size (aLInb b h)

/-! ## The slots of the exchange buffer -/

/-- Slot `k` as the transfers name it. -/
abbrev slotM (k : Fin 4) : Memref sig .tc .vmem S9x256x128 .bf16 :=
  (cM.slice (slotRect k) (fun _ => rfl)).squeeze S9x256x128 squeezes_S1x9x256x128_S9x256x128

/-- The contents with `v` in every slot: what a slot holding `v` is said to hold. -/
def slotBuf (v : S9x256x128.Idx → Elt F .bf16) : (cc0_scratch0 : Ref sig .tc).ty.Contents (Elt F) :=
  fun i => v (fun a => match a with | ⟨0, _⟩ => i (1 : Fin 4) | ⟨1, _⟩ => i (2 : Fin 4) | ⟨2, _⟩ => i (3 : Fin 4))

/-! ## A device's partial sums -/

section Part
variable (x : (cc0_stg0_0 : Ref sig .tc).ty.Contents (Elt F)) (w : (cc0_stg1_0 : Ref sig .tc).ty.Contents (Elt F))
  (kk vv : (cc0_stg3_0 : Ref sig .tc).ty.Contents (Elt F))

/-- The queries of batch `b`: `x[b] @ Wq`. -/
def qOf (b : Fin 2) : FVec F S256x512 .f32 :=
  k0_pay2 ((xM : Memref sig .tc .vmem S2x256x768 .f32).view.readAt (Elt F) (xRect b).toLoadRect x)
    ((wM : Memref sig .tc .vmem S768x512 .f32).view.readAt (Elt F) wRect.toLoadRect w)
/-- Head `h` of them. -/
def qH (b : Fin 2) (h : Fin 8) : FVec F S256x64 .f32 := extractStridedSlice S256x64 ![0, 64 * h.val] (qOf x w b) (qSlices h)
/-- Head `h` of batch `b` of the device's keys, and of its values. -/
def kH (b : Fin 2) (h : Fin 8) : Vec F S1x512x1x64 .f32 :=
  (kM : Memref sig .tc .vmem S2x512x8x64 .f32).view.readAt (Elt F) (kRect b h).toLoadRect kk
/-- The weighted sum of the device's values, unnormalized. -/
def oPart (b : Fin 2) (h : Fin 8) : FVec F S256x64 .f32 := k0_pay16 (qH x w b h) (kH kk b h) (kH vv b h)
/-- The sum of the weights. -/
def lPart (b : Fin 2) (h : Fin 8) : FVec F S256x1 .f32 := k0_pay17 (qH x w b h) (kH kk b h)

/-- Rows 0 to 7: heads `2 (j mod 4)` and `2 (j mod 4) + 1` of batch `j / 4` side by side. -/
def packO (j : Fin 9) (hj : j.val < 8) : FVec F S1x1x256x128 .bf16 :=
  k0_pay61 (oPart x w kk vv ⟨j.val / 4, by omega⟩ ⟨2 * (j.val % 4), by omega⟩)
    (oPart x w kk vv ⟨j.val / 4, by omega⟩ ⟨2 * (j.val % 4) + 1, by omega⟩)
/-- Row 8: the sixteen sums of weights, one to a column. -/
def packL : FVec F S1x1x256x128 .bf16 :=
  k0_pay69 (lPart x w kk 0 0) (lPart x w kk 0 1) (lPart x w kk 0 2) (lPart x w kk 0 3) (lPart x w kk 0 4) (lPart x w kk 0 5) (lPart x w kk 0 6) (lPart x w kk 0 7)
    (lPart x w kk 1 0) (lPart x w kk 1 1) (lPart x w kk 1 2) (lPart x w kk 1 3) (lPart x w kk 1 4) (lPart x w kk 1 5) (lPart x w kk 1 6) (lPart x w kk 1 7)
/-- Row `j`, of either kind. -/
def packRow (j : Fin 9) : FVec F S1x1x256x128 .bf16 := if hj : j.val < 8 then packO x w kk vv j hj else packL x w kk

/-- The nine rows. -/
def pack : FVec F S9x256x128 .bf16 := fun i =>
  packRow x w kk vv (i (0 : Fin 3)) (fun a => match a with | ⟨0, _⟩ => (0 : Fin 1) | ⟨1, _⟩ => (0 : Fin 1) | ⟨2, _⟩ => i (1 : Fin 3) | ⟨3, _⟩ => i (2 : Fin 3))

end Part

/-! ## The result from the summed rows -/

section Out
variable (t : FVec F S9x256x128 .bf16) (wo : (cc0_stg2_0 : Ref sig .tc).ty.Contents (Elt F))

/-- Head `h` of batch `b`, normalized. -/
def attnH (b : Fin 2) (h : Fin 8) : FVec F S256x64 .f32 :=
  k0_pay77 ((cM : Memref sig .tc .vmem S4x9x256x128 .bf16).view.readAt (Elt F) (aORect b h).toLoadRect (slotBuf t))
    ((cM : Memref sig .tc .vmem S4x9x256x128 .bf16).view.readAt (Elt F) (aLRect b h).toLoadRect (slotBuf t))
/-- The eight heads of batch `b` side by side. -/
def attn (b : Fin 2) : FVec F S256x512 .f32 :=
  concatenate S256x512 1 [⟨S256x64, attnH t b 0⟩, ⟨S256x64, attnH t b 1⟩, ⟨S256x64, attnH t b 2⟩, ⟨S256x64, attnH t b 3⟩, ⟨S256x64, attnH t b 4⟩, ⟨S256x64, attnH t b 5⟩, ⟨S256x64, attnH t b 6⟩, ⟨S256x64, attnH t b 7⟩]
    concatenates_S256x64_S256x64_S256x64_S256x64_S256x64_S256x64_S256x64_S256x64_S256x512_d1
/-- Batch `b` of the result: the heads times `Wo`. -/
def outRow (b : Fin 2) : FVec F S1x256x768 .f32 :=
  k0_pay1 (attn t b) (k0_pay91 ((woM : Memref sig .tc .vmem S512x768 .f32).view.readAt (Elt F) woRect.toLoadRect wo))
/-- The whole result. -/
def outOf : (cc0_stg5_0 : Ref sig .tc).ty.Contents (Elt F) := fun i =>
  outRow t wo (i (0 : Fin 3)) (fun a => match a with | ⟨0, _⟩ => (0 : Fin 1) | ⟨1, _⟩ => i (1 : Fin 3) | ⟨2, _⟩ => i (2 : Fin 3))
end Out

/-! ## The devices -/

/-- The partner of device `c` in exchange `s`: the index with bit `s` flipped. -/
def peer (s : Fin 3) (c : Dev nD) : Dev nD :=
  ⟨(c.val ^^^ 2 ^ s.val) % 8, Nat.mod_lt _ (by decide)⟩

/-- Partners are each other's partners. -/
theorem peer_peer (s : Fin 3) (c : Dev nD) : peer s (peer s c) = c := by revert s c; decide

/-- The device the first signal names is the first partner, -/
theorem dev1_eq (c : Dev nD) : (⟨k0_dev1 c, k0_dev1_lt c⟩ : Dev nD) = peer 0 c := by revert c; decide
/-- the second's the second, -/
theorem dev2_eq (c : Dev nD) : (⟨k0_dev2 c, k0_dev2_lt c⟩ : Dev nD) = peer 1 c := by revert c; decide
/-- the third's the third; -/
theorem dev3_eq (c : Dev nD) : (⟨k0_dev3 c, k0_dev3_lt c⟩ : Dev nD) = peer 2 c := by revert c; decide
/-- and so are the devices the first, -/
theorem dev4_eq (c : Dev nD) : (⟨k0_dev4 c, k0_dev4_lt c⟩ : Dev nD) = peer 0 c := by revert c; decide
/-- second -/
theorem dev5_eq (c : Dev nD) : (⟨k0_dev5 c, k0_dev5_lt c⟩ : Dev nD) = peer 1 c := by revert c; decide
/-- and third transfer name. -/
theorem dev6_eq (c : Dev nD) : (⟨k0_dev6 c, k0_dev6_lt c⟩ : Dev nD) = peer 2 c := by revert c; decide

variable (m : (ℓ : Loc nD τ sig) → Buf (Elt F) ℓ)

/-- The staged arguments of device `c`. -/
def xv (c : Dev nD) : (cc0_stg0_0 : Ref sig .tc).ty.Contents (Elt F) := (win0_0.blk (0 : Fin 1)).view.read (Elt F) (m ((c : Thread nD τ).loc main_arg0))
/-- Its staged `Wq`, -/
def wv (c : Dev nD) : (cc0_stg1_0 : Ref sig .tc).ty.Contents (Elt F) := (win0_1.blk (0 : Fin 1)).view.read (Elt F) (m ((c : Thread nD τ).loc main_arg1))
/-- its staged `Wo`, -/
def wov (c : Dev nD) : (cc0_stg2_0 : Ref sig .tc).ty.Contents (Elt F) := (win0_2.blk (0 : Fin 1)).view.read (Elt F) (m ((c : Thread nD τ).loc main_arg4))
/-- its staged keys, -/
def kv (c : Dev nD) : (cc0_stg3_0 : Ref sig .tc).ty.Contents (Elt F) := (win0_3.blk (0 : Fin 1)).view.read (Elt F) (m ((c : Thread nD τ).loc main_arg2))
/-- and its staged values. -/
def vv (c : Dev nD) : (cc0_stg4_0 : Ref sig .tc).ty.Contents (Elt F) := (win0_4.blk (0 : Fin 1)).view.read (Elt F) (m ((c : Thread nD τ).loc main_arg3))

/-- What slot 0 of device `c` holds after its own computation and after `s` exchanges: exchange `s` adds the partner's. -/
def accN : ℕ → Dev nD → FVec F S9x256x128 .bf16
  | 0, c => pack (xv m c) (wv m c) (kv m c) (vv m c)
  | s + 1, c => addf (accN s c) (accN s (peer (Fin.ofNat 3 s) c))
/-- The same with `s` at most three. -/
def acc (s : Fin 4) (c : Dev nD) : FVec F S9x256x128 .bf16 := accN m s.val c

/-- One exchange more. -/
theorem acc_succ (s : Fin 3) (c : Dev nD) : acc m s.succ c = addf (acc m s.castSucc c) (acc m s.castSucc (peer s c)) := by
  fin_cases s <;> rfl

/-- The kernel's result on device `c`. -/
def outAt (c : Dev nD) : (cc0_stg5_0 : Ref sig .tc).ty.Contents (Elt F) := outOf (acc m 3 c) (wov m c)

end Cert.KernelIdealProof

end
-- ==== Proof.KernelIdeal.Slots.lean ====
/-
# Reading and writing the exchange buffer slot by slot

The exchange buffer has four slots of nine rows. Here: which elements a slot is, that the four slots
are the whole buffer, what reading a slot gives, and what each store and each landing leaves.
-/
module

public import proofs.«01_k».proof.Proof.KernelIdeal.Vals
public import Idealize.ShloMosaic.Lib.Pipeline.Value

@[expose] public section

noncomputable section

namespace Cert.KernelIdealProof

open Cert.KernelIdeal Cert.KernelIdeal.Gen

open Idealize.ShloMosaic
open Idealize.ShloMosaic.TcCoe

variable {F : FTy → Type} [FloatOps F]

abbrev CIdx : Type := (cc0_scratch0 : Ref sig .tc).ty.Idx

/-- A slot's elements are its rectangle's. -/
theorem slot_set (k : Fin 4) : ((slotM k).view.set : Finset CIdx) = (slotRect k).set :=
  (View.set_reshape ((View.whole cc0_scratch0).slice (slotRect k)) _).trans (View.set_slice_whole cc0_scratch0 (slotRect k))

/-- The elements of a slot: those whose first coordinate is the slot's number. -/
theorem mem_slot (k : Fin 4) (i : CIdx) : i ∈ (slotM k).view.set ↔ (i (0 : Fin 4)).val = k.val := by
  rw [slot_set, Rect.mem_set_unit]
  constructor
  · intro h
    have h0 := h (0 : Fin 4)
    have e1 : (![k.val, 0, 0, 0] : Fin 4 → Nat) 0 = k.val := rfl
    have e2 : S1x9x256x128.size (0 : Fin 4) = 1 := rfl
    rw [e1, e2] at h0
    omega
  · intro h a
    have hi := (i a).isLt
    revert hi
    have key : ∀ a : Fin 4, (i a).val < S4x9x256x128.size a →
        (![k.val, 0, 0, 0] : Fin 4 → Nat) a ≤ (i a).val ∧ (i a).val < (![k.val, 0, 0, 0] : Fin 4 → Nat) a + S1x9x256x128.size a := by
      intro a; fin_cases a
      · intro _; exact ⟨by simp [h], by simp [h]⟩
      · intro hi; exact ⟨Nat.zero_le _, by simpa using hi⟩
      · intro hi; exact ⟨Nat.zero_le _, by simpa using hi⟩
      · intro hi; exact ⟨Nat.zero_le _, by simpa using hi⟩
    exact key a

/-- Distinct slots share no element. -/
theorem slot_disjoint {k l : Fin 4} (h : k ≠ l) : Disjoint (slotM k).view.set (slotM l).view.set := by
  rw [Finset.disjoint_left]
  intro i hk hl
  exact h (Fin.ext (((mem_slot k i).mp hk).symm.trans ((mem_slot l i).mp hl)))

/-- The four slots are the whole buffer. -/
theorem slot_cover : ((slotM 0).view.set ∪ ((slotM 1).view.set ∪ ((slotM 2).view.set ∪ (slotM 3).view.set)) : Finset CIdx) = Finset.univ := by
  ext i
  rw [Finset.mem_union, Finset.mem_union, Finset.mem_union, mem_slot, mem_slot, mem_slot, mem_slot]
  refine iff_of_true ?_ (Finset.mem_univ i)
  have h : (i (0 : Fin 4)).val < 4 := (i (0 : Fin 4)).isLt
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  omega

/-- What a load of the whole of slot `k` reads, from contents with `v` in every slot: `v`, under a unit axis. -/
theorem readAt_slot (k : Fin 4) (v : S9x256x128.Idx → Elt F .bf16) (j : S1x9x256x128.Idx) :
    (cM : Memref sig .tc .vmem S4x9x256x128 .bf16).view.readAt (Elt F) (slotRect k).toLoadRect (slotBuf v) j
      = v (fun a => match a with | ⟨0, _⟩ => j (1 : Fin 4) | ⟨1, _⟩ => j (2 : Fin 4) | ⟨2, _⟩ => j (3 : Fin 4)) := by
  show slotBuf v _ = _
  unfold slotBuf
  congr 1
  funext a
  fin_cases a
  · exact Fin.ext (by show 0 + 1 * (j (1 : Fin 4)).val = (j (1 : Fin 4)).val; omega)
  · exact Fin.ext (by show 0 + 1 * (j (2 : Fin 4)).val = (j (2 : Fin 4)).val; omega)
  · exact Fin.ext (by show 0 + 1 * (j (3 : Fin 4)).val = (j (3 : Fin 4)).val; omega)

/-- Dropping a slot's unit axis, at an index, -/
theorem cast_slot (u : S1x9x256x128.Idx → Elt F .bf16) (j : S9x256x128.Idx) :
    shapeCast S9x256x128 u shapeCasts_S1x9x256x128_S9x256x128 j
      = u (fun a => match a with | ⟨0, _⟩ => (0 : Fin 1) | ⟨1, _⟩ => j (0 : Fin 3) | ⟨2, _⟩ => j (1 : Fin 3) | ⟨3, _⟩ => j (2 : Fin 3)) := by
  refine shapeCast_apply _ _ _ _ ?_
  rw [Shape.rowMajor_val_four, Shape.rowMajor_val_three]
  show (((0 : ℕ) * 9 + (j 0).val) * 256 + (j 1).val) * 128 + (j 2).val = ((j 0).val * 256 + (j 1).val) * 128 + (j 2).val
  omega

/-- and putting it back. -/
theorem cast_slot' (u : S9x256x128.Idx → Elt F .bf16) (j : S1x9x256x128.Idx) :
    shapeCast S1x9x256x128 u shapeCasts_S9x256x128_S1x9x256x128 j
      = u (fun a => match a with | ⟨0, _⟩ => j (1 : Fin 4) | ⟨1, _⟩ => j (2 : Fin 4) | ⟨2, _⟩ => j (3 : Fin 4)) := by
  refine shapeCast_apply _ _ _ _ ?_
  rw [Shape.rowMajor_val_four, Shape.rowMajor_val_three]
  have h : (j (0 : Fin 4)).val < 1 := (j (0 : Fin 4)).isLt
  show ((j 1).val * 256 + (j 2).val) * 128 + (j 3).val = (((j 0).val * 9 + (j 1).val) * 256 + (j 2).val) * 128 + (j 3).val
  omega

/-- Reading a slot out of the contents with `v` in every slot gives `v`. -/
theorem read_slot (k : Fin 4) (v : S9x256x128.Idx → Elt F .bf16) : (slotM k).view.read (Elt F) (slotBuf v) = v := by
  rw [Memref.read_squeeze_slice cM (slotRect k) (fun _ => rfl) squeezes_S1x9x256x128_S9x256x128 shapeCasts_S1x9x256x128_S9x256x128]
  funext j
  rw [cast_slot, readAt_slot]
  congr 1
  funext a
  fin_cases a <;> rfl

/-- Contents a view reads alike agree on its elements. -/
theorem eq_of_read {κ : Kind} {sp : Space} {S : Shape} {e : EltTy} (v : View sig κ sp S e) {f g : v.ty.Contents (Elt F)}
    (h : v.read (Elt F) f = v.read (Elt F) g) : ∀ i ∈ v.set, f i = g i := by
  intro i hi
  obtain ⟨y, rfl⟩ := View.exists_emb_of_mem_set v hi
  have h' := congrFun h y
  rw [View.read_apply, View.read_apply] at h'
  have hc : ∀ (α β : Type) (e : α = β) (a b : α), cast e a = cast e b → a = b := by
    intro α β e a b h; cases e; exact h
  exact hc _ _ _ _ _ h'

/-- A transfer of a slot holding `v` leaves `v` in the slot it lands in. -/
theorem landed_eq (k l : Fin 4) (fd : (slotM l).view.ty.Contents (Elt F)) (v : S9x256x128.Idx → Elt F .bf16) :
    ∀ i ∈ (slotM l).view.set, (slotM l).view.write (Elt F) fd ((slotM k).view.read (Elt F) (slotBuf v)) Finset.univ i = slotBuf v i :=
  eq_of_read _ (by rw [View.read_write_univ, read_slot, read_slot])

/-- A store of all of slot 0 leaves the value stored, without its unit axis. -/
theorem stored_eq (f : (cc0_scratch0 : Ref sig .tc).ty.Contents (Elt F)) (w : S1x9x256x128.Idx → Elt F .bf16) :
    ∀ i ∈ (slotM 0).view.set, ((cM : Memref sig .tc .vmem S4x9x256x128 .bf16).access (slotRect 0) : View sig .tc _ _ _).write (Elt F) f w Finset.univ i
      = slotBuf (shapeCast S9x256x128 w shapeCasts_S1x9x256x128_S9x256x128) i :=
  eq_of_read (slotM 0).view (by
    rw [read_slot]
    show shapeCast S9x256x128 (((cM : Memref sig .tc .vmem S4x9x256x128 .bf16).access (slotRect 0) : View sig .tc _ _ _).read (Elt F) _) _ = _
    rw [View.read_write_univ])

/-- The value added in an exchange: the sum of the two slots. -/
theorem pay70_eq (u v : S9x256x128.Idx → Elt F .bf16) (k : Fin 4) :
    shapeCast S9x256x128 (k0_pay70 ((cM : Memref sig .tc .vmem S4x9x256x128 .bf16).view.readAt (Elt F) (slotRect 0).toLoadRect (slotBuf u))
        ((cM : Memref sig .tc .vmem S4x9x256x128 .bf16).view.readAt (Elt F) (slotRect k).toLoadRect (slotBuf v))) shapeCasts_S1x9x256x128_S9x256x128
      = addf (F := F) (φ := .bf16) u v := by
  have h := read_slot (F := F) 0 u
  have h' := read_slot (F := F) k v
  rw [Memref.read_squeeze_slice cM (slotRect _) (fun _ => rfl) squeezes_S1x9x256x128_S9x256x128 shapeCasts_S1x9x256x128_S9x256x128] at h h'
  unfold k0_pay70
  dsimp only
  rw [h, h']
  funext j
  rw [cast_slot, cast_slot']
  congr 1
  funext a
  fin_cases a <;> rfl

/-! ## The nine stores of a device's own rows -/

/-- A store of row `j` of slot 0. -/
def rowUpd (j : Fin 9) (w : S1x1x256x128.Idx → Elt F .bf16) (f : (cc0_scratch0 : Ref sig .tc).ty.Contents (Elt F)) :
    (cc0_scratch0 : Ref sig .tc).ty.Contents (Elt F) := fun i =>
  if (i (0 : Fin 4)).val = 0 ∧ (i (1 : Fin 4)).val = j.val then
    w (fun a => match a with | ⟨0, _⟩ => (0 : Fin 1) | ⟨1, _⟩ => (0 : Fin 1) | ⟨2, _⟩ => i (2 : Fin 4) | ⟨3, _⟩ => i (3 : Fin 4))
  else f i

/-- The elements of row `j` of slot 0. -/
theorem mem_row (j : Fin 9) (i : CIdx) :
    i ∈ ((cM : Memref sig .tc .vmem S4x9x256x128 .bf16).access (rowRect j) : View sig .tc _ _ _).set
      ↔ (i (0 : Fin 4)).val = 0 ∧ (i (1 : Fin 4)).val = j.val := by
  show i ∈ ((View.whole cc0_scratch0).slice (rowRect j)).set ↔ _
  rw [View.set_slice_whole, Rect.mem_set_unit]
  constructor
  · intro h
    have h0 := h (0 : Fin 4)
    have h1 := h (1 : Fin 4)
    have e0 : (![0, j.val, 0, 0] : Fin 4 → Nat) 0 = 0 := rfl
    have e1 : (![0, j.val, 0, 0] : Fin 4 → Nat) 1 = j.val := rfl
    have s0 : S1x1x256x128.size (0 : Fin 4) = 1 := rfl
    have s1 : S1x1x256x128.size (1 : Fin 4) = 1 := rfl
    rw [e0, s0] at h0; rw [e1, s1] at h1
    omega
  · intro h a
    have hi := (i a).isLt
    revert hi
    have key : ∀ a : Fin 4, (i a).val < S4x9x256x128.size a →
        (![0, j.val, 0, 0] : Fin 4 → Nat) a ≤ (i a).val ∧ (i a).val < (![0, j.val, 0, 0] : Fin 4 → Nat) a + S1x1x256x128.size a := by
      intro a; fin_cases a
      · intro _; exact ⟨Nat.zero_le _, by simp [h.1]⟩
      · intro _; exact ⟨by simp [h.2], by simp [h.2]⟩
      · intro hi; exact ⟨Nat.zero_le _, by simpa using hi⟩
      · intro hi; exact ⟨Nat.zero_le _, by simpa using hi⟩
    exact key a

/-- A store of row `j` changes that row only. -/
theorem row_write (j : Fin 9) (w : S1x1x256x128.Idx → Elt F .bf16) (f : (cc0_scratch0 : Ref sig .tc).ty.Contents (Elt F)) :
    ((cM : Memref sig .tc .vmem S4x9x256x128 .bf16).access (rowRect j) : View sig .tc _ _ _).write (Elt F) f w Finset.univ = rowUpd j w f := by
  funext i
  unfold rowUpd
  by_cases h : i ∈ ((cM : Memref sig .tc .vmem S4x9x256x128 .bf16).access (rowRect j) : View sig .tc _ _ _).set
  · rw [if_pos ((mem_row j i).mp h)]
    obtain ⟨y, rfl⟩ := View.exists_emb_of_mem_set _ h
    rw [View.write_emb_of_mem _ _ (Finset.mem_univ y)]
    show w y = w _
    congr 1
    funext a
    fin_cases a
    · exact Fin.ext (by have : (y (0 : Fin 4)).val < 1 := (y (0 : Fin 4)).isLt; show (y (0 : Fin 4)).val = 0; omega)
    · exact Fin.ext (by have : (y (1 : Fin 4)).val < 1 := (y (1 : Fin 4)).isLt; show (y (1 : Fin 4)).val = 0; omega)
    · exact Fin.ext (by show (y (2 : Fin 4)).val = 0 + 1 * (y (2 : Fin 4)).val; omega)
    · exact Fin.ext (by show (y (3 : Fin 4)).val = 0 + 1 * (y (3 : Fin 4)).val; omega)
  · rw [if_neg (fun h' => h ((mem_row j i).mpr h'))]
    exact View.write_of_not_mem _ _ _ h

/-- A row lies in slot 0, -/
theorem row_sub (j : Fin 9) : ((cM : Memref sig .tc .vmem S4x9x256x128 .bf16).access (rowRect j) : View sig .tc _ _ _).setOn Finset.univ ⊆ (slotM 0).view.set :=
  fun i hi => (mem_slot 0 i).mpr ((mem_row j i).mp hi).1

/-- and so does all that a load of the slot reads. -/
theorem slotAcc_sub : ((cM : Memref sig .tc .vmem S4x9x256x128 .bf16).access (slotRect 0) : View sig .tc _ _ _).setOn Finset.univ ⊆ (slotM 0).view.set := by
  rw [slot_set, View.setOn_univ]
  exact (View.set_slice_whole cc0_scratch0 (slotRect 0)).subset

/-- A load at a rectangle whose first coordinate is the slot's number reads that slot only. -/
theorem load_sub (k : Fin 4) {off size : Fin 4 → ℕ} (inb : ∀ a, off a + size a ≤ S4x9x256x128.size a) (h0 : off 0 = k.val) (h1 : size 0 = 1) :
    (cM : Memref sig .tc .vmem S4x9x256x128 .bf16).view.setOn (Rect.unit (s := S4x9x256x128) off size inb).toLoadRect.set ⊆ (slotM k).view.set := by
  intro i hi
  have hi' : i ∈ (Rect.unit (s := S4x9x256x128) off size inb).set := (View.mem_setOn (View.whole cc0_scratch0) (x := i)).mp hi
  rw [Rect.mem_set_unit] at hi'
  have h := hi' (0 : Fin 4)
  rw [h0, h1] at h
  exact (mem_slot k i).mpr (by omega)

/-- After the nine stores slot 0 holds the nine rows. -/
theorem pack_eq (x : (cc0_stg0_0 : Ref sig .tc).ty.Contents (Elt F)) (w : (cc0_stg1_0 : Ref sig .tc).ty.Contents (Elt F))
    (kk vv : (cc0_stg3_0 : Ref sig .tc).ty.Contents (Elt F)) (f : (cc0_scratch0 : Ref sig .tc).ty.Contents (Elt F)) :
    ∀ i ∈ (slotM 0).view.set,
      rowUpd 8 (packRow x w kk vv 8) (rowUpd 7 (packRow x w kk vv 7) (rowUpd 6 (packRow x w kk vv 6) (rowUpd 5 (packRow x w kk vv 5)
        (rowUpd 4 (packRow x w kk vv 4) (rowUpd 3 (packRow x w kk vv 3) (rowUpd 2 (packRow x w kk vv 2) (rowUpd 1 (packRow x w kk vv 1)
          (rowUpd 0 (packRow x w kk vv 0) f)))))))) i = slotBuf (pack x w kk vv) i := by
  intro i hi
  have h0 : (i (0 : Fin 4)).val = 0 := (mem_slot 0 i).mp hi
  have key : ∀ j : Fin 9, i (1 : Fin 4) = j → packRow x w kk vv j (fun a => match a with | ⟨0, _⟩ => (0 : Fin 1) | ⟨1, _⟩ => (0 : Fin 1) | ⟨2, _⟩ => i (2 : Fin 4) | ⟨3, _⟩ => i (3 : Fin 4))
      = slotBuf (pack x w kk vv) i := by
    intro j hj; subst hj; rfl
  have hlt : (i (1 : Fin 4)).val < 9 := (i (1 : Fin 4)).isLt
  unfold rowUpd
  simp only [h0, true_and]
  obtain ⟨j, hj⟩ : ∃ j : Fin 9, i (1 : Fin 4) = j := ⟨_, rfl⟩
  have hv : (i (1 : Fin 4)).val = j.val := by rw [hj]
  rw [hv, ← key j hj]
  fin_cases j <;> simp

/-! ## The two stores of the result -/

/-- The elements of batch `b` of the result. -/
theorem mem_out (b : Fin 2) (i : (cc0_stg5_0 : Ref sig .tc).ty.Idx) :
    i ∈ ((oM : Memref sig .tc .vmem S2x256x768 .f32).access (xRect b) : View sig .tc _ _ _).set ↔ (i (0 : Fin 3)).val = b.val := by
  show i ∈ ((View.whole cc0_stg5_0).slice (xRect b)).set ↔ _
  rw [View.set_slice_whole, Rect.mem_set_unit]
  constructor
  · intro h
    have h0 := h (0 : Fin 3)
    have e0 : (![b.val, 0, 0] : Fin 3 → Nat) 0 = b.val := rfl
    have s0 : S1x256x768.size (0 : Fin 3) = 1 := rfl
    rw [e0, s0] at h0
    omega
  · intro h a
    have hi := (i a).isLt
    revert hi
    have key : ∀ a : Fin 3, (i a).val < S2x256x768.size a →
        (![b.val, 0, 0] : Fin 3 → Nat) a ≤ (i a).val ∧ (i a).val < (![b.val, 0, 0] : Fin 3 → Nat) a + S1x256x768.size a := by
      intro a; fin_cases a
      · intro _; exact ⟨by simp [h], by simp [h]⟩
      · intro hi; exact ⟨Nat.zero_le _, by simpa using hi⟩
      · intro hi; exact ⟨Nat.zero_le _, by simpa using hi⟩
    exact key a

/-- The two stores of the result write all of it. -/
theorem out_write (t : FVec F S9x256x128 .bf16) (wo : (cc0_stg2_0 : Ref sig .tc).ty.Contents (Elt F)) (f : (cc0_stg5_0 : Ref sig .tc).ty.Contents (Elt F)) :
    ((oM : Memref sig .tc .vmem S2x256x768 .f32).access (xRect 1) : View sig .tc _ _ _).write (Elt F)
      (((oM : Memref sig .tc .vmem S2x256x768 .f32).access (xRect 0) : View sig .tc _ _ _).write (Elt F) f (outRow t wo 0) Finset.univ) (outRow t wo 1) Finset.univ
      = outOf t wo := by
  have key : ∀ (b : Fin 2) (y : S1x256x768.Idx) (g : (cc0_stg5_0 : Ref sig .tc).ty.Contents (Elt F)),
      ((oM : Memref sig .tc .vmem S2x256x768 .f32).access (xRect b) : View sig .tc _ _ _).write (Elt F) g (outRow t wo b) Finset.univ
        (((oM : Memref sig .tc .vmem S2x256x768 .f32).access (xRect b) : View sig .tc _ _ _).emb y)
      = outOf t wo (((oM : Memref sig .tc .vmem S2x256x768 .f32).access (xRect b) : View sig .tc _ _ _).emb y) := by
    intro b y g
    rw [View.write_emb_of_mem _ _ (Finset.mem_univ y)]
    have hb : (((oM : Memref sig .tc .vmem S2x256x768 .f32).access (xRect b) : View sig .tc _ _ _).emb y) (0 : Fin 3) = b :=
      Fin.ext ((mem_out b _).mp (View.emb_mem_set _ y))
    unfold outOf
    rw [hb]
    show outRow t wo b y = outRow t wo b _
    congr 1
    funext a
    fin_cases a
    · exact Fin.ext (by have : (y (0 : Fin 3)).val < 1 := (y (0 : Fin 3)).isLt; show (y (0 : Fin 3)).val = 0; omega)
    · exact Fin.ext (by show (y (1 : Fin 3)).val = 0 + 1 * (y (1 : Fin 3)).val; omega)
    · exact Fin.ext (by show (y (2 : Fin 3)).val = 0 + 1 * (y (2 : Fin 3)).val; omega)
  funext i
  by_cases h : i ∈ ((oM : Memref sig .tc .vmem S2x256x768 .f32).access (xRect 1) : View sig .tc _ _ _).set
  · obtain ⟨y, rfl⟩ := View.exists_emb_of_mem_set _ h
    exact key 1 y _
  · rw [View.write_of_not_mem _ _ _ h]
    have h0 : i ∈ ((oM : Memref sig .tc .vmem S2x256x768 .f32).access (xRect 0) : View sig .tc _ _ _).set := by
      rw [mem_out] at h ⊢
      have : (i (0 : Fin 3)).val < 2 := (i (0 : Fin 3)).isLt
      have e1 : ((1 : Fin 2) : ℕ) = 1 := rfl
      have e0 : ((0 : Fin 2) : ℕ) = 0 := rfl
      rw [e1] at h; rw [e0]
      omega
    obtain ⟨y, rfl⟩ := View.exists_emb_of_mem_set _ h0
    exact key 0 y _

end Cert.KernelIdealProof

end
-- ==== Proof.KernelIdeal.Proto.lean ====
/-
# The protocol of the exchange

Every device has seven semaphore cells: its barrier, three send cells and three receive cells. Each is
used for one round only.

* Barrier of `c`: signalled once by each partner `peer s c`, one unit each; `c` waits for three. The
  signal of `peer s c` hands `c` the landing slot `1 + s` of `peer s c`, with whatever it holds.
* Send cell `s` of `c`: raised by `c`'s own transfer `s` when it has been read; hands back slot 0.
* Receive cell `s` of `c`: raised when the transfer `s` of `peer s c` has landed; hands `c` its slot
  `1 + s`, holding what slot 0 of `peer s c` held after `s` exchanges.

A device waits on its barrier while it owes the three receive cells, and on receive cell `s` while it owes
those of later exchanges only, so the order barrier, receive 0, receive 1, receive 2 has no cycle.
-/
module

public import proofs.«01_k».proof.Proof.KernelIdeal.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The barrier semaphore of collective id 0; send semaphore `s`; receive semaphore `s`. -/
abbrev barS : Sem sig := (SemArray.scalar (sig.barrier 0 rfl) : Sems sig S_).sem
/-- The semaphore that counts what step `s` has sent, -/
def sendQ (s : Fin 3) : DmaSem sig := ⟨6 + s.val, by have := s.isLt; show 6 + s.val < 12; omega⟩
/-- and what it has received. -/
def recvQ (s : Fin 3) : DmaSem sig := ⟨9 + s.val, by have := s.isLt; show 9 + s.val < 12; omega⟩

abbrev barCell (c : Dev nD) : GSem nD τ sig := ((c : Thread nD τ), .reg barS)
abbrev sendCell (c : Dev nD) (s : Fin 3) : GSem nD τ sig := ((c : Thread nD τ), .dma (sendQ s))
abbrev recvCell (c : Dev nD) (s : Fin 3) : GSem nD τ sig := ((c : Thread nD τ), .dma (recvQ s))

/-- The kernel's own (scoped) semaphores: three send, three receive; -/
abbrev osem : Fin 6 → SemLoc sig := fun
  | 0 => .dma (sendQ 0) | 1 => .dma (sendQ 1) | 2 => .dma (sendQ 2) | 3 => .dma (recvQ 0) | 4 => .dma (recvQ 1) | 5 => .dma (recvQ 2)
/-- all seven of the exchange's: barrier, send, receive. -/
abbrev csem : Fin 7 → SemLoc sig := fun
  | 0 => .reg barS | 1 => .dma (sendQ 0) | 2 => .dma (sendQ 1) | 3 => .dma (sendQ 2) | 4 => .dma (recvQ 0) | 5 => .dma (recvQ 1) | 6 => .dma (recvQ 2)
abbrev kcell (ck : Dev nD × Fin 7) : GSem nD τ sig := ((ck.1 : Thread nD τ), csem ck.2)

/-- The positions of send cell `s` and receive cell `s` among the seven. -/
abbrev sendK (s : Fin 3) : Fin 7 := ⟨1 + s.val, by omega⟩
abbrev recvK (s : Fin 3) : Fin 7 := ⟨4 + s.val, by omega⟩
/-- Among a device's seven they are found at `sendK s`, -/
theorem csem_send (s : Fin 3) : csem (sendK s) = .dma (sendQ s) := by fin_cases s <;> rfl
/-- and at `recvK s`. -/
theorem csem_recv (s : Fin 3) : csem (recvK s) = .dma (recvQ s) := by fin_cases s <;> rfl

/-- The credit of one slot. -/
abbrev N : ℕ := (slotM 0).view.dmaCredit
/-- A transfer credits more than nothing. -/
theorem N_pos : 0 < N := View.dmaCredit_pos _ (by decide)
/-- Every slot's transfer credits the same. -/
theorem N_eq (k : Fin 4) : (slotM k).view.dmaCredit = N := rfl

/-! ## Slots held -/

/-- Slot `k` of device `c`, all of it, at contents `f`. -/
def slotAt (c : Dev nD) (k : Fin 4) (f : (cc0_scratch0 : Ref sig .tc).ty.Contents (Elt F)) : sProp 𝕄 :=
  (slotM k).view.loc (c : Thread nD τ) ↦[(slotM k).view.set]{fullShare} f

omit [FloatOps F] in
/-- A slot may be handed over through a cell. -/
instance slotAt_storable (c : Dev nD) (k : Fin 4) (f) : BI.Storable (upEmb : UEmb _ 𝕄) (slotAt (F := F) c k f) := by unfold slotAt; infer_instance

omit [FloatOps F] in
/-- A slot is its own elements: contents that agree on them will do. -/
theorem slotAt_congr (c : Dev nD) (k : Fin 4) {f g : (cc0_scratch0 : Ref sig .tc).ty.Contents (Elt F)}
    (h : ∀ i ∈ (slotM k).view.set, f i = g i) : (slotAt c k f : sProp 𝕄) = slotAt c k g := pointsTo_congr h

/-- Landing slot `s` is slot `1 + s`. -/
abbrev land (s : Fin 3) : Fin 4 := s.succ

omit [FloatOps F] in
/-- The whole exchange buffer is its four slots. -/
theorem scratch_split (c : Dev nD) (f : Buf (Elt F) ((c : Thread nD τ).loc cc0_scratch0)) :
    (((c : Thread nD τ).loc cc0_scratch0) ↦{fullShare} f : sProp 𝕄)
      ⊢ iprop(slotAt c 0 f ∗ slotAt c 1 f ∗ slotAt c 2 f ∗ slotAt c 3 f) := by
  have d0 : Disjoint (slotM 0).view.set ((slotM 1).view.set ∪ ((slotM 2).view.set ∪ (slotM 3).view.set)) := by
    rw [Finset.disjoint_union_right, Finset.disjoint_union_right]
    exact ⟨slot_disjoint (by decide), slot_disjoint (by decide), slot_disjoint (by decide)⟩
  have d1 : Disjoint (slotM 1).view.set ((slotM 2).view.set ∪ (slotM 3).view.set) := by
    rw [Finset.disjoint_union_right]
    exact ⟨slot_disjoint (by decide), slot_disjoint (by decide)⟩
  have h : (((c : Thread nD τ).loc cc0_scratch0) ↦[(slotM 0).view.set ∪ ((slotM 1).view.set ∪ ((slotM 2).view.set ∪ (slotM 3).view.set))]{fullShare} f : sProp 𝕄)
      = (((c : Thread nD τ).loc cc0_scratch0) ↦{fullShare} f : sProp 𝕄) := by rw [slot_cover]
  rw [← h]
  exact (pointsTo_union d0).1.trans (sep_mono_right ((pointsTo_union d1).1.trans (sep_mono_right (pointsTo_union (slot_disjoint (by decide))).1)))

omit [FloatOps F] in
/-- And the four slots make the whole buffer again, whatever each holds. -/
theorem scratch_join (c : Dev nD) (f0 f1 f2 f3 : (cc0_scratch0 : Ref sig .tc).ty.Contents (Elt F)) :
    iprop(slotAt c 0 f0 ∗ slotAt c 1 f1 ∗ slotAt c 2 f2 ∗ slotAt c 3 f3)
      ⊢ (iprop(∃ f : Buf (Elt F) ((c : Thread nD τ).loc cc0_scratch0), ((c : Thread nD τ).loc cc0_scratch0) ↦{fullShare} f) : sProp 𝕄) := by
  have d0 : Disjoint (slotM 0).view.set ((slotM 1).view.set ∪ ((slotM 2).view.set ∪ (slotM 3).view.set)) := by
    rw [Finset.disjoint_union_right, Finset.disjoint_union_right]
    exact ⟨slot_disjoint (by decide), slot_disjoint (by decide), slot_disjoint (by decide)⟩
  have d1 : Disjoint (slotM 1).view.set ((slotM 2).view.set ∪ (slotM 3).view.set) := by
    rw [Finset.disjoint_union_right]
    exact ⟨slot_disjoint (by decide), slot_disjoint (by decide)⟩
  have key : ∀ f : Buf (Elt F) ((c : Thread nD τ).loc cc0_scratch0),
      (((c : Thread nD τ).loc cc0_scratch0) ↦[(slotM 0).view.set ∪ ((slotM 1).view.set ∪ ((slotM 2).view.set ∪ (slotM 3).view.set))]{fullShare} f : sProp 𝕄)
      ⊢ (iprop(∃ f : Buf (Elt F) ((c : Thread nD τ).loc cc0_scratch0), ((c : Thread nD τ).loc cc0_scratch0) ↦{fullShare} f) : sProp 𝕄) := by
    intro f
    rw [slot_cover]
    iintro H; iexists f; iexact H
  exact (sep_mono_right ((sep_mono_right (pointsTo_join (slot_disjoint (by decide)))).trans (pointsTo_join d1))).trans ((pointsTo_join d0).trans (key _))

/-! ## The schedule -/

/-- What the signal of partner `s` hands `c`: that partner's landing slot, and that it is at round 0 of its receive cell. -/
def barPay (c : Dev nD) (s : Fin 3) : sProp 𝕄 := iprop((∃ f, slotAt (peer s c) (land s) f) ∗ reached ER (recvCell (peer s c) s) 0)
/-- What send cell `s` hands back: slot 0, as it was sent. -/
def sendPay (c : Dev nD) (s : Fin 3) : sProp 𝕄 := slotAt c 0 (slotBuf (acc m s.castSucc c))
/-- What receive cell `s` hands over: the landing slot, holding the partner's slot 0. -/
def recvPay (c : Dev nD) (s : Fin 3) : sProp 𝕄 := slotAt c (land s) (slotBuf (acc m s.castSucc (peer s c)))

/-- Send and receive semaphores, by index. -/
abbrev isXfer (q : SemLoc sig) : Bool := match q with | .reg _ => false | .dma q => decide (6 ≤ q.val)
abbrev isBar (q : SemLoc sig) : Bool := match q with | .reg _ => true | .dma _ => false

/-- One round, round 0: a barrier cell has three duties of one unit, the others the duty `0` of a slot's credit. -/
def ringRd : Rounds.Schedule (GSem nD τ sig) (Fin 3) 𝕄 where
  duties g r := if r = 0 ∧ g.1.2 = .tc ∧ isBar g.2 = true then Finset.univ else if r = 0 ∧ g.1.2 = .tc ∧ isXfer g.2 = true then {0} else ∅
  unitless _ := False
  amount g _ _ := if isBar g.2 = true then 1 else N
  payload g _ d := match g.2 with
    | .reg _ => barPay g.1.1 d
    | .dma q => if q.val < 9 then sendPay m g.1.1 (Fin.ofNat 3 (q.val - 6)) else recvPay m g.1.1 (Fin.ofNat 3 (q.val - 9))
  amount_pos g _ _ _ := by
    by_cases h : isBar g.2 = true
    · rw [if_pos h]; exact Nat.one_pos
    · rw [if_neg h]; exact N_pos

/-- Every payload may be handed over through a cell. -/
instance ringRd_payload_storable (g : GSem nD τ sig) (r : ℕ) (d : Fin 3) :
    BI.Storable (upEmb : UEmb _ 𝕄) ((ringRd (F := F) m).payload g r d) := by
  obtain ⟨t, q⟩ := g
  cases q with
  | reg q => show BI.Storable upEmb (barPay t.1 d); unfold barPay; infer_instance
  | dma q =>
    show BI.Storable upEmb (if q.val < 9 then sendPay m t.1 (Fin.ofNat 3 (q.val - 6)) else recvPay m t.1 (Fin.ofNat 3 (q.val - 9)))
    unfold sendPay recvPay
    split <;> infer_instance

section Sched
variable (c : Dev nD) (s : Fin 3)

/-- Send semaphores count transfers, -/
theorem isXfer_send : isXfer (.dma (sendQ s)) = true := by revert s; decide
/-- and so do receive semaphores. -/
theorem isXfer_recv : isXfer (.dma (recvQ s)) = true := by revert s; decide

/-- A barrier has three duties, -/
theorem duties_bar : (ringRd (F := F) m).duties (barCell c) 0 = Finset.univ := by dsimp only [ringRd]; exact if_pos ⟨rfl, rfl, rfl⟩
/-- a send cell one, -/
theorem duties_send : (ringRd (F := F) m).duties (sendCell c s) 0 = {0} := by
  dsimp only [ringRd]; rw [if_neg (fun h => Bool.false_ne_true h.2.2)]; exact if_pos ⟨rfl, rfl, isXfer_send s⟩
/-- a receive cell one, -/
theorem duties_recv : (ringRd (F := F) m).duties (recvCell c s) 0 = {0} := by
  dsimp only [ringRd]; rw [if_neg (fun h => Bool.false_ne_true h.2.2)]; exact if_pos ⟨rfl, rfl, isXfer_recv s⟩
/-- and none has a second round. -/
theorem duties_later (g : GSem nD τ sig) : ∀ r, 1 ≤ r → (ringRd (F := F) m).duties g r = ∅ :=
  fun r hr => by dsimp only [ringRd]; rw [if_neg fun h => by omega, if_neg fun h => by omega]

/-- A signal adds one, -/
theorem amount_bar (d : Fin 3) : (ringRd (F := F) m).amount (barCell c) 0 d = 1 := rfl
/-- a sent transfer its credit, -/
theorem amount_send (d : Fin 3) : (ringRd (F := F) m).amount (sendCell c s) 0 d = N := by dsimp only [ringRd]; exact if_neg Bool.false_ne_true
/-- and so does a received one. -/
theorem amount_recv (d : Fin 3) : (ringRd (F := F) m).amount (recvCell c s) 0 d = N := by dsimp only [ringRd]; exact if_neg Bool.false_ne_true

/-- A barrier waits for three, -/
theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- a send cell for one transfer, -/
theorem expect_send : (ringRd (F := F) m).expect (sendCell c s) 0 = N := by
  unfold Schedule.expect Schedule.amountOf; rw [duties_send, Finset.sum_singleton, amount_send]
/-- and so does a receive cell. -/
theorem expect_recv : (ringRd (F := F) m).expect (recvCell c s) 0 = N := by
  unfold Schedule.expect Schedule.amountOf; rw [duties_recv, Finset.sum_singleton, amount_recv]

/-- What a signal hands over, -/
theorem payload_bar (d : Fin 3) : (ringRd (F := F) m).payload (barCell c) 0 d = barPay c d := rfl
/-- what a sent transfer gives back, -/
theorem payload_send (d : Fin 3) : (ringRd (F := F) m).payload (sendCell c s) 0 d = sendPay m c s := by
  fin_cases s <;> rfl
/-- and what a received one brings. -/
theorem payload_recv (d : Fin 3) : (ringRd (F := F) m).payload (recvCell c s) 0 d = recvPay m c s := by
  fin_cases s <;> rfl

/-- The rest of each cell's round, no duty taken. -/
theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_univ_eq_bigSepL [0, 1, 2] (by decide) (by decide)]
  rfl
/-- All a send cell has to hand over, -/
theorem rest_send : bigSep ((ringRd (F := F) m).duties (sendCell c s) 0 \ ∅) (fun d => (ringRd (F := F) m).payload (sendCell c s) 0 d) = sendPay m c s := by
  rw [Finset.sdiff_empty, duties_send, bigSep_singleton, payload_send]
/-- and all a receive cell has. -/
theorem rest_recv : bigSep ((ringRd (F := F) m).duties (recvCell c s) 0 \ ∅) (fun d => (ringRd (F := F) m).payload (recvCell c s) 0 d) = recvPay m c s := by
  rw [Finset.sdiff_empty, duties_recv, bigSep_singleton, payload_recv]

end Sched

/-! ## What each device owes; the levels -/

/-- What is owed for the transfers of exchanges `j`, …, `2`. -/
def owe : Fin 4 → Dev nD → CellTallies nD τ sig Unit
  | 3, _ => 0
  | 2, c => 0 + tallyAt (recvCell (peer 2 c) 2) () N
  | 1, c => (0 + tallyAt (recvCell (peer 2 c) 2) () N) + tallyAt (recvCell (peer 1 c) 1) () N
  | 0, c => ((0 + tallyAt (recvCell (peer 2 c) 2) () N) + tallyAt (recvCell (peer 1 c) 1) () N) + tallyAt (recvCell (peer 0 c) 0) () N

/-- A step pays its one transfer. -/
theorem owe_succ (s : Fin 3) (c : Dev nD) : owe s.castSucc c = owe s.succ c + tallyAt (recvCell (peer s c) s) () N := by
  fin_cases s <;> rfl

/-- And for the signals too, the first signal's unit the last summand. -/
def O₂ (c : Dev nD) : CellTallies nD τ sig Unit := owe 0 c + tallyAt (barCell (peer 2 c)) () 1
/-- What is owed after the first signal, -/
def O₁ (c : Dev nD) : CellTallies nD τ sig Unit := O₂ c + tallyAt (barCell (peer 1 c)) () 1
/-- and before it. -/
def O₀ (c : Dev nD) : CellTallies nD τ sig Unit := O₁ c + tallyAt (barCell (peer 0 c)) () 1

/-- Debts are counted on the cores that run the body. -/
def L (g : GSem nD τ sig) : Finset Unit := if g.1.2 = .tc then {()} else ∅
/-- Barrier cells at 1, receive cell `s` at `2 + s`, everything else at 0. -/
def lv (g : GSem nD τ sig) (_ : Unit) : ℕ := match g.2 with
  | .reg _ => 1
  | .dma q => if q.val < 9 then 0 else q.val - 7

/-- Elsewhere none is, -/
theorem L_of_ne (g : GSem nD τ sig) (h : g.1.2 ≠ .tc) : L g = ∅ := if_neg h
/-- there one kind is. -/
theorem L_tc (c : Dev nD) (sm : SemLoc sig) : L ((c : Thread nD τ), sm) = {()} := if_pos rfl
/-- The level of a receive cell grows with the step. -/
theorem lv_recv (c : Dev nD) (s : Fin 3) : lv (recvCell c s) () = 2 + s.val := by fin_cases s <;> rfl

/-- The only transfers owed are those of the steps still to come. -/
theorem owe_pos {j : Fin 4} {c : Dev nD} {g : GSem nD τ sig} {u : Unit} (h : 0 < owe j c g u) :
    ∃ s : Fin 3, j.val ≤ s.val ∧ g = recvCell (peer s c) s := by
  have key : ∀ (O : CellTallies nD τ sig Unit) (s : Fin 3), 0 < (O + tallyAt (recvCell (peer s c) s) () N) g u →
      0 < O g u ∨ g = recvCell (peer s c) s := by
    intro O s h
    rw [Pi.add_apply, Finsupp.add_apply, tallyAt_apply] at h
    by_cases hg : g = recvCell (peer s c) s
    · exact Or.inr hg
    · rw [if_neg (fun h' => hg h'.1)] at h; exact Or.inl h
  fin_cases j
  · rcases key _ 0 h with h | h
    · rcases key _ 1 h with h | h
      · rcases key _ 2 h with h | h
        · exact absurd h (Nat.lt_irrefl 0)
        · exact ⟨2, by decide, h⟩
      · exact ⟨1, by decide, h⟩
    · exact ⟨0, by decide, h⟩
  · rcases key _ 1 h with h | h
    · rcases key _ 2 h with h | h
      · exact absurd h (Nat.lt_irrefl 0)
      · exact ⟨2, by decide, h⟩
    · exact ⟨1, by decide, h⟩
  · rcases key _ 2 h with h | h
    · exact absurd h (Nat.lt_irrefl 0)
    · exact ⟨2, by decide, h⟩
  · exact absurd h (Nat.lt_irrefl 0)

/-- Before the signals, those and the three signals. -/
theorem O₀_pos {c : Dev nD} {g : GSem nD τ sig} {u : Unit} (h : 0 < O₀ c g u) :
    (∃ s : Fin 3, g = recvCell (peer s c) s) ∨ ∃ s : Fin 3, g = barCell (peer s c) := by
  have key : ∀ (O : CellTallies nD τ sig Unit) (s : Fin 3), 0 < (O + tallyAt (barCell (peer s c)) () 1) g u →
      0 < O g u ∨ g = barCell (peer s c) := by
    intro O s h
    rw [Pi.add_apply, Finsupp.add_apply, tallyAt_apply] at h
    by_cases hg : g = barCell (peer s c)
    · exact Or.inr hg
    · rw [if_neg (fun h' => hg h'.1)] at h; exact Or.inl h
  rcases key _ 0 h with h | h
  · rcases key _ 1 h with h | h
    · rcases key _ 2 h with h | h
      · obtain ⟨s, -, hs⟩ := owe_pos h; exact Or.inl ⟨s, hs⟩
      · exact Or.inr ⟨2, h⟩
    · exact Or.inr ⟨1, h⟩
  · exact Or.inr ⟨0, h⟩

omit [FloatOps F] in
/-- A staging copy may be waited for whatever the device owes. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | ⟨s, rfl⟩ <;> exact Finset.mem_singleton_self _)
      (fun p hp => by rw [Finset.mem_singleton.mp hp]; dsimp only [lv]; rw [if_pos hq])
      (fun g u hg => by
        rcases O₀_pos hg with ⟨s, rfl⟩ | ⟨s, rfl⟩
        · rw [lv_recv]; omega
        · exact Nat.one_pos)
  · rw [MayWait_zero]; iintro -; iempintro

omit [FloatOps F] in
/-- A cell of level `1 + j` at most may be waited for while only exchanges `j` and later are owed. -/
theorem mayWait_owe (c : Dev nD) (sm : SemLoc sig) (j : Fin 4) (h : lv ((c : Thread nD τ), sm) () ≤ 1 + j.val) :
    (levAts L lv : sProp 𝕄) ⊢ MayWait (c : Thread nD τ) sm () (owe j c) :=
  MayOwe.of_cut (L := L) (lev := lv) (1 + j.val) (fun p hp => by rw [Finset.mem_singleton.mp hp, L_tc]; exact Finset.mem_singleton_self _)
    (fun g u hg => by obtain ⟨s, -, rfl⟩ := owe_pos hg; exact Finset.mem_singleton_self _)
    (fun p hp => by rw [Finset.mem_singleton.mp hp]; exact h)
    (fun g u hg => by obtain ⟨s, hs, rfl⟩ := owe_pos hg; rw [lv_recv]; omega)

/-! ## The ghost state -/

/-- The invariants of all the cells, under the names `K` they were allocated at, and that every cell is at round 0. -/
def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

/-- The records may be copied. -/
instance records_persistent (K : Dev nD × Fin 7 → ℕ) : BI.Persistent (records m K) := by unfold records; infer_instance

/-- The records hold every cell's invariant, -/
theorem inv_at (K : Dev nD × Fin 7 → ℕ) (ck : Dev nD × Fin 7) : records m K ⊢ cellInv ER (ringRd m) (K ck) (kcell ck) := by
  have h : (bigSep Finset.univ fun ck : Dev nD × Fin 7 => (cellInv ER (ringRd m) (K ck) (kcell ck) : sProp 𝕄)) ⊢ cellInv ER (ringRd m) (K ck) (kcell ck) :=
    bigSep_elim (Finset.mem_univ ck)
  unfold records; iintro ⟨H, -⟩
  iapply h; iexact H
/-- and that its round has begun. -/
theorem reached_at (K : Dev nD × Fin 7 → ℕ) (ck : Dev nD × Fin 7) : records m K ⊢ reached ER (kcell ck) 0 := by
  have h : (bigSep Finset.univ fun ck : Dev nD × Fin 7 => (reached ER (kcell ck) 0 : sProp 𝕄)) ⊢ reached ER (kcell ck) 0 :=
    bigSep_elim (Finset.mem_univ ck)
  unfold records; iintro ⟨-, H⟩
  iapply h; iexact H

/-- The cells by number and by name agree, -/
theorem kcell_send (c : Dev nD) (s : Fin 3) : kcell (c, sendK s) = sendCell c s := by unfold kcell sendCell; rw [csem_send]
/-- for both kinds. -/
theorem kcell_recv (c : Dev nD) (s : Fin 3) : kcell (c, recvK s) = recvCell c s := by unfold kcell recvCell; rw [csem_recv]

/-- The invariant of a barrier, -/
theorem inv_bar (K : Dev nD × Fin 7 → ℕ) (c : Dev nD) : records m K ⊢ cellInv ER (ringRd m) (K (c, 0)) (barCell c) := inv_at m K (c, 0)
/-- of a send cell, -/
theorem inv_send (K : Dev nD × Fin 7 → ℕ) (c : Dev nD) (s : Fin 3) : records m K ⊢ cellInv ER (ringRd m) (K (c, sendK s)) (sendCell c s) := by
  rw [← kcell_send]; exact inv_at m K _
/-- and of a receive cell. -/
theorem inv_recv (K : Dev nD × Fin 7 → ℕ) (c : Dev nD) (s : Fin 3) : records m K ⊢ cellInv ER (ringRd m) (K (c, recvK s)) (recvCell c s) := by
  rw [← kcell_recv]; exact inv_at m K _
/-- The round of a barrier has begun, -/
theorem reached_bar (K : Dev nD × Fin 7 → ℕ) (c : Dev nD) : records m K ⊢ reached ER (barCell c) 0 := reached_at m K (c, 0)
/-- of a send cell, -/
theorem reached_send (K : Dev nD × Fin 7 → ℕ) (c : Dev nD) (s : Fin 3) : records m K ⊢ reached ER (sendCell c s) 0 := by
  rw [← kcell_send]; exact reached_at m K _
/-- and of a receive cell. -/
theorem reached_recv (K : Dev nD × Fin 7 → ℕ) (c : Dev nD) (s : Fin 3) : records m K ⊢ reached ER (recvCell c s) 0 := by
  rw [← kcell_recv]; exact reached_at m K _

/-- What device `c` uses in exchange `s`: its positions at its two cells, the tokens of the duties it pays (its own send
    cell's, its partner's receive cell's and barrier cell's), and the credit to wait on its receive cell. -/
def stepToks (c : Dev nD) (s : Fin 3) : sProp 𝕄 :=
  iprop(atPos ER (sendCell c s) 0 ∅ 0 ∗ atPos ER (recvCell c s) 0 ∅ 0
    ∗ dutyTok ER (sendCell c s) 0 0 ∗ dutyTok ER (recvCell (peer s c) s) 0 0)

/-- What device `c`'s body starts from, but for the credit. -/
def ghost (K : Dev nD × Fin 7 → ℕ) (c : Dev nD) : sProp 𝕄 :=
  iprop(records m K ∗ atPos ER (barCell c) 0 ∅ 0
    ∗ (dutyTok ER (barCell (peer 0 c)) 0 0 ∗ dutyTok ER (barCell (peer 1 c)) 0 1 ∗ dutyTok ER (barCell (peer 2 c)) 0 2)
    ∗ stepToks c 0 ∗ stepToks c 1 ∗ stepToks c 2)

/-- The credit device `c` gets: three units at its barrier, a slot's at each receive cell. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from. -/
def start (c : Dev nD) : sProp 𝕄 := iprop((∃ K, ghost m K c) ∗ credits c ∗ levAts L lv)

/-- What the body starts from, with the exchange buffer at any contents. -/
def Φ₀ (c : Dev nD) : sProp 𝕄 := iprop(start m c ∗ ∃ f : Buf (Elt F) ((c : Thread nD τ).loc cc0_scratch0), ((c : Thread nD τ).loc cc0_scratch0) ↦{fullShare} f)
/-- What it ends with: the exchange buffer, and the seven cells closed with their counters at zero. -/
def Φ₁ (c : Dev nD) : sProp 𝕄 :=
  iprop((∃ f : Buf (Elt F) ((c : Thread nD τ).loc cc0_scratch0), ((c : Thread nD τ).loc cc0_scratch0) ↦{fullShare} f)
    ∗ (semVal (sendCell c 0) 0 ∗ semVal (sendCell c 1) 0 ∗ semVal (sendCell c 2) 0 ∗ semVal (recvCell c 0) 0 ∗ semVal (recvCell c 1) 0 ∗ semVal (recvCell c 2) 0)
    ∗ semVal (barCell c) 0)

/-! ## The pipeline's proof data -/

/-- The pipeline's data: what each window holds before and after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wv m c
    | ⟨2, _⟩ => wov m c
    | ⟨3, _⟩ => kv m c
    | ⟨4, _⟩ => vv m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.KernelIdeal.Rules.lean ====
/-
# One rule per effect of the exchange

Each effect of the body that concerns the exchange buffer or a semaphore, stated at the protocol's own
names: a load or store of a slot, a signal, the wait on the barrier, a transfer, the two waits after it.
-/
module

public import proofs.«01_k».proof.Proof.KernelIdeal.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The program's semaphores are the protocol's -/

/-- The send semaphore of step 0. -/
theorem sendS0 : ((cc0_scratch1.slice (Rect.unit (s := S3) ![0] S1.size inb_S3_S1_0)).squeeze S_ squeezes_S1_S_).sem = sendQ 0 := by decide
/-- The send semaphore of step 1. -/
theorem sendS1 : ((cc0_scratch1.slice (Rect.unit (s := S3) ![1] S1.size inb_S3_S1_1)).squeeze S_ squeezes_S1_S_).sem = sendQ 1 := by decide
/-- The send semaphore of step 2. -/
theorem sendS2 : ((cc0_scratch1.slice (Rect.unit (s := S3) ![2] S1.size inb_S3_S1_2)).squeeze S_ squeezes_S1_S_).sem = sendQ 2 := by decide
/-- The receive semaphore of step 0. -/
theorem recvS0 : ((cc0_scratch2.slice (Rect.unit (s := S3) ![0] S1.size inb_S3_S1_0)).squeeze S_ squeezes_S1_S_).sem = recvQ 0 := by decide
/-- The receive semaphore of step 1. -/
theorem recvS1 : ((cc0_scratch2.slice (Rect.unit (s := S3) ![1] S1.size inb_S3_S1_1)).squeeze S_ squeezes_S1_S_).sem = recvQ 1 := by decide
/-- The receive semaphore of step 2. -/
theorem recvS2 : ((cc0_scratch2.slice (Rect.unit (s := S3) ![2] S1.size inb_S3_S1_2)).squeeze S_ squeezes_S1_S_).sem = recvQ 2 := by decide

section
variable (c : Dev nD) {α : Type}

/-- A load within slot `k`. -/
theorem load_slot (k : Fin 4) {off size : Fin 4 → ℕ} {inb : ∀ a, off a + size a ≤ S4x9x256x128.size a}
    {hl : (cM : Memref sig .tc .vmem S4x9x256x128 .bf16).view.LoadsAt (Rect.unit (s := S4x9x256x128) off size inb).toLoadRect}
    {Q : α → sProp 𝕄}
    {p : _ → Prog (TpuEff nD τ sig (Elt F) Λ₀ .tc) α} {f : (cc0_scratch0 : Ref sig .tc).ty.Contents (Elt F)} :
    (iprop(⌜off 0 = k.val ∧ size 0 = 1⌝ ∗ slotAt c k f) : sProp 𝕄)
      ⊢ iprop((slotAt c k f -∗ wp frame (wpE (defs₀ (F := F)) 𝒱₀ (c : Thread nD τ) none) Set.univ
              (p ((cM : Memref sig .tc .vmem S4x9x256x128 .bf16).view.readAt (Elt F) (Rect.unit (s := S4x9x256x128) off size inb).toLoadRect f)) Q)
        -∗ wp frame (wpE (defs₀ (F := F)) 𝒱₀ (c : Thread nD τ) none) Set.univ (.op (.load cM (Rect.unit (s := S4x9x256x128) off size inb).toLoadRect hl) p) Q) := by
  iintro ⟨%h, H⟩
  have e : (slotAt c k f : sProp 𝕄)
      ⊢ iprop((slotAt c k f -∗ wp frame (wpE (defs₀ (F := F)) 𝒱₀ (c : Thread nD τ) none) Set.univ
              (p ((cM : Memref sig .tc .vmem S4x9x256x128 .bf16).view.readAt (Elt F) (Rect.unit (s := S4x9x256x128) off size inb).toLoadRect f)) Q)
        -∗ wp frame (wpE (defs₀ (F := F)) 𝒱₀ (c : Thread nD τ) none) Set.univ (.op (.load cM (Rect.unit (s := S4x9x256x128) off size inb).toLoadRect hl) p) Q) :=
    wp_load 𝒱₀ (c : Thread nD τ) none Set.univ (m := cM) (load_sub k inb h.1 h.2)
  iapply e; iexact H

/-- A store of row `j` of slot 0; the value stored may be named otherwise. -/
theorem store_row (j : Fin 9) {w : S1x1x256x128.Idx → Elt F .bf16} (w' : S1x1x256x128.Idx → Elt F .bf16)
    {hx : ((cM : Memref sig .tc .vmem S4x9x256x128 .bf16).access (rowRect j)).Stores Finset.univ} {hm}
    {Q : α → sProp 𝕄}
    {p : PUnit → Prog (TpuEff nD τ sig (Elt F) Λ₀ .tc) α} {f : (cc0_scratch0 : Ref sig .tc).ty.Contents (Elt F)} :
    (iprop(⌜w = w'⌝ ∗ slotAt c 0 f) : sProp 𝕄)
      ⊢ iprop((slotAt c 0 (rowUpd j w' f) -∗ wp frame (wpE (defs₀ (F := F)) 𝒱₀ (c : Thread nD τ) none) Set.univ (p ⟨⟩) Q)
        -∗ wp frame (wpE (defs₀ (F := F)) 𝒱₀ (c : Thread nD τ) none) Set.univ (.op (.store cM (rowRect j) w Finset.univ hx hm) p) Q) := by
  iintro ⟨%hw, H⟩
  subst hw
  have h : (slotAt c 0 f : sProp 𝕄)
      ⊢ iprop((slotAt c 0 (rowUpd j w f) -∗ wp frame (wpE (defs₀ (F := F)) 𝒱₀ (c : Thread nD τ) none) Set.univ (p ⟨⟩) Q)
        -∗ wp frame (wpE (defs₀ (F := F)) 𝒱₀ (c : Thread nD τ) none) Set.univ (.op (.store cM (rowRect j) w Finset.univ hx hm) p) Q) := by
    rw [← row_write]
    exact wp_store 𝒱₀ (c : Thread nD τ) none Set.univ (m := cM) (r := rowRect j) (w := w) (Mk := Finset.univ) (hx := hx) (hm := hm) (f := f) (S := (slotM 0).view.set) (row_sub j)
  iapply h; iexact H

/-- A store of all of slot 0. -/
theorem store_slot {w : S1x9x256x128.Idx → Elt F .bf16} (t : S9x256x128.Idx → Elt F .bf16)
    {hx : ((cM : Memref sig .tc .vmem S4x9x256x128 .bf16).access (slotRect 0)).Stores Finset.univ} {hm}
    {Q : α → sProp 𝕄}
    {p : PUnit → Prog (TpuEff nD τ sig (Elt F) Λ₀ .tc) α} {f : (cc0_scratch0 : Ref sig .tc).ty.Contents (Elt F)} :
    (iprop(⌜shapeCast S9x256x128 w shapeCasts_S1x9x256x128_S9x256x128 = t⌝ ∗ slotAt c 0 f) : sProp 𝕄)
      ⊢ iprop((slotAt c 0 (slotBuf t) -∗ wp frame (wpE (defs₀ (F := F)) 𝒱₀ (c : Thread nD τ) none) Set.univ (p ⟨⟩) Q)
        -∗ wp frame (wpE (defs₀ (F := F)) 𝒱₀ (c : Thread nD τ) none) Set.univ (.op (.store cM (slotRect 0) w Finset.univ hx hm) p) Q) := by
  iintro ⟨%ht, H⟩
  subst ht
  have h : (slotAt c 0 f : sProp 𝕄)
      ⊢ iprop((slotAt c 0 (slotBuf (shapeCast S9x256x128 w shapeCasts_S1x9x256x128_S9x256x128)) -∗ wp frame (wpE (defs₀ (F := F)) 𝒱₀ (c : Thread nD τ) none) Set.univ (p ⟨⟩) Q)
        -∗ wp frame (wpE (defs₀ (F := F)) 𝒱₀ (c : Thread nD τ) none) Set.univ (.op (.store cM (slotRect 0) w Finset.univ hx hm) p) Q) := by
    rw [← slotAt_congr c 0 (stored_eq f w)]
    exact wp_store 𝒱₀ (c : Thread nD τ) none Set.univ (m := cM) slotAcc_sub
  iapply h; iexact H

/-- The result buffer of device `c`. -/
def outPts (f : (cc0_stg5_0 : Ref sig .tc).ty.Contents (Elt F)) : sProp 𝕄 := ((c : Thread nD τ).loc cc0_stg5_0) ↦{fullShare} f

/-- A load of the result buffer. -/
theorem load_out {r : LoadRect S2x256x768} {hl : (oM : Memref sig .tc .vmem S2x256x768 .f32).view.LoadsAt r}
    {Q : α → sProp 𝕄} {p : _ → Prog (TpuEff nD τ sig (Elt F) Λ₀ .tc) α} {f : (cc0_stg5_0 : Ref sig .tc).ty.Contents (Elt F)} :
    (outPts c f : sProp 𝕄)
      ⊢ iprop((outPts c f -∗ wp frame (wpE (defs₀ (F := F)) 𝒱₀ (c : Thread nD τ) none) Set.univ (p ((oM : Memref sig .tc .vmem S2x256x768 .f32).view.readAt (Elt F) r f)) Q)
        -∗ wp frame (wpE (defs₀ (F := F)) 𝒱₀ (c : Thread nD τ) none) Set.univ (.op (.load oM r hl) p) Q) :=
  wp_load 𝒱₀ (c : Thread nD τ) none Set.univ (m := oM) (Finset.subset_univ _)

/-- A store of batch `b` of the result. -/
theorem store_out (b : Fin 2) {w : S1x256x768.Idx → Elt F .f32} (w' : S1x256x768.Idx → Elt F .f32)
    {hx : ((oM : Memref sig .tc .vmem S2x256x768 .f32).access (xRect b)).Stores Finset.univ} {hm}
    {Q : α → sProp 𝕄} {p : PUnit → Prog (TpuEff nD τ sig (Elt F) Λ₀ .tc) α} {f : (cc0_stg5_0 : Ref sig .tc).ty.Contents (Elt F)} :
    (iprop(⌜w = w'⌝ ∗ outPts c f) : sProp 𝕄)
      ⊢ iprop((outPts c (((oM : Memref sig .tc .vmem S2x256x768 .f32).access (xRect b) : View sig .tc _ _ _).write (Elt F) f w' Finset.univ)
              -∗ wp frame (wpE (defs₀ (F := F)) 𝒱₀ (c : Thread nD τ) none) Set.univ (p ⟨⟩) Q)
        -∗ wp frame (wpE (defs₀ (F := F)) 𝒱₀ (c : Thread nD τ) none) Set.univ (.op (.store oM (xRect b) w Finset.univ hx hm) p) Q) := by
  iintro ⟨%hw, H⟩
  subst hw
  unfold outPts
  iapply (wp_store 𝒱₀ (c : Thread nD τ) none Set.univ (m := oM) (r := xRect b) (w := w) (Mk := Finset.univ) (hx := hx) (hm := hm) (f := f) (Finset.subset_univ _)); iexact H

variable (K : Dev nD × Fin 7 → ℕ)

/-- What a device owes, whatever it has waited for so far. -/
def ow (O : CellTallies nD τ sig Unit) : sProp 𝕄 := iprop(∃ W : Waits sig Unit, owes (c : Thread nD τ) O W)

/-- The signal to partner `s`: it hands that partner this device's landing slot `s`. -/
theorem signal_peer (s : Fin 3) {n : Dev nD} (hn : n = peer s c) (O : CellTallies nD τ sig Unit)
    {Q : α → sProp 𝕄}
    {p : PUnit → Prog (TpuEff nD τ sig (Elt F) Λ₀ .tc) α} {f : (cc0_scratch0 : Ref sig .tc).ty.Contents (Elt F)} {k : ℤ} (hk : k = ((1 : ℕ) : ℤ)) :
    iprop(records m K ∗ ow c (O + tallyAt (barCell (peer s c)) () 1) ∗ dutyTok ER (barCell (peer s c)) 0 s ∗ slotAt c (land s) f)
      ⊢ iprop((ow c O -∗ wp frame (wpE (defs₀ (F := F)) 𝒱₀ (c : Thread nD τ) none) Set.univ (p ⟨⟩) Q)
        -∗ wp frame (wpE (defs₀ (F := F)) 𝒱₀ (c : Thread nD τ) none) Set.univ (.op (.semSignal (Dev.tc n) barS k) p) Q) := by
  subst hn
  subst hk
  unfold ow
  iintro ⟨#HR, ⟨%W, HO⟩, Ht, Hs⟩ Hk
  iapply (Rounds.wp_signal 𝒱₀ ER (ringRd m) (c : Thread nD τ) none (dst := (peer s c : Thread nD τ)) (κ := K (peer s c, 0))
      (d := s) (by rw [duties_bar]; exact Finset.mem_univ _) (amount_bar m (peer s c) s) () O rfl) $$ [HO Ht Hs]
  · isplitr; · iapply (inv_bar m K (peer s c)); iexact HR
    isplitl [HO]; · iexact HO
    isplitl [Ht]; · iexact Ht
    isplitl [Hs]
    · rw [payload_bar]; unfold barPay; rw [peer_peer]
      isplitl [Hs]; · iexists f; iexact Hs
      iapply (reached_recv m K c s); iexact HR
    · iapply (reached_bar m K (peer s c)); iexact HR
  iintro HO
  iapply Hk
  iexists W; iexact HO

/-- The wait on the barrier, owing the exchanges' landings: the three partners' landing slots come with it. -/
theorem wait_bar {Q : α → sProp 𝕄} {p : PUnit → Prog (TpuEff nD τ sig (Elt F) Λ₀ .tc) α} {k : ℕ} (hk : k = 3) :
    iprop(records m K ∗ levAts L lv ∗ ow c (owe 0 c) ∗ cred (tallyAt (barCell c) () 3) ∗ atPos ER (barCell c) 0 ∅ 0)
      ⊢ iprop(((ow c (owe 0 c) ∗ atPos ER (barCell c) 1 ∅ 0 ∗ (∃ f, slotAt (peer 0 c) (land 0) f) ∗ (∃ f, slotAt (peer 1 c) (land 1) f)
              ∗ (∃ f, slotAt (peer 2 c) (land 2) f)) -∗ wp frame (wpE (defs₀ (F := F)) 𝒱₀ (c : Thread nD τ) none) Set.univ (p ⟨⟩) Q)
        -∗ wp frame (wpE (defs₀ (F := F)) 𝒱₀ (c : Thread nD τ) none) Set.univ (.op (.semWait barS k) p) Q) := by
  subst hk
  unfold ow
  iintro ⟨#HR, #Hlev, ⟨%W, HO⟩, Hc, Hat⟩ Hk
  iapply (Rounds.wp_wait_rest_token 𝒱₀ ER (ringRd m) (c : Thread nD τ) none (κ := K (c, 0))
      (wpE_semWait_eq 𝒱₀ (c : Thread nD τ) none Set.univ) (Set.mem_univ _) () (O := owe 0 c) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_owe c (.reg barS) 0 (le_refl 1)); iexact Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  iapply Hk
  isplitl [HO]; · iexists _; iexact HO
  isplitl [Hat]; · iexact Hat
  isplitl [H0]; · iexact H0
  isplitl [H1] <;> iassumption

/-- The transfer of exchange `s`: slot 0 to the partner's landing slot `s`. -/
theorem send_peer (s : Fin 3) {n : Dev nD} (hn : n = peer s c) {qs qr : DmaSem sig} (hs : qs = sendQ s) (hr : qr = recvQ s)
    {hsc : (slotM (land s) : Memref sig (Dev.tc n : Thread nD τ).2.kind .vmem S9x256x128 .bf16).view.ref.isScScratch = false}
    {hsrc : (slotM 0).view.WordExact} {hdst : (slotM (land s)).view.WordExact}
    {hsem : DmaTarget.Typed .vmem (.dma qr) (.remote (Dev.tc n : Thread nD τ) (slotM (land s)) (.dma qs) hsc)}
    {Q : α → sProp 𝕄} {p : PUnit → Prog (TpuEff nD τ sig (Elt F) Λ₀ .tc) α} {f : (cc0_scratch0 : Ref sig .tc).ty.Contents (Elt F)} :
    iprop(records m K ∗ slotAt c 0 (slotBuf (acc m s.castSucc c)) ∗ slotAt (peer s c) (land s) f ∗ ow c (owe s.castSucc c)
        ∗ dutyTok ER (sendCell c s) 0 0 ∗ dutyTok ER (recvCell (peer s c) s) 0 0)
      ⊢ iprop(((cred (tallyAt (sendCell c s) () N) ∗ ow c (owe s.succ c)) -∗ wp frame (wpE (defs₀ (F := F)) 𝒱₀ (c : Thread nD τ) none) Set.univ (p ⟨⟩) Q)
        -∗ wp frame (wpE (defs₀ (F := F)) 𝒱₀ (c : Thread nD τ) none) Set.univ
            (.op (.enqueueDma (slotM 0) (.remote (Dev.tc n : Thread nD τ) (slotM (land s)) (.dma qs) hsc) (.dma qr) hsrc hdst hsem) p) Q) := by
  subst hn
  subst hs
  subst hr
  unfold ow
  iintro ⟨#HR, Hs, Hd, ⟨%W, HO⟩, Ht, Ht'⟩ Hk
  unfold slotAt
  iapply (Rounds.wp_send_pointsTo 𝒱₀ ER (ringRd m) (c : Thread nD τ) none (κ₁ := K (c, sendK s)) (κ₂ := K (peer s c, recvK s))
    (r₁ := 0) (r₂ := 0) (d₁ := 0) (d₂ := 0) (fd := f)
    (by rw [duties_send]; exact Finset.mem_singleton_self _) (by rw [duties_recv]; exact Finset.mem_singleton_self _)
    () () N (by exact N_eq (land s)) (amount_send m c s 0) (amount_recv m (peer s c) s 0) (owe s.succ c) (owe_succ s c) (W := W)
    (by rw [payload_send]; exact BI.Entails.refl _)
    (by
      rw [payload_recv]; unfold recvPay; rw [peer_peer]
      exact Entails.of_eq (slotAt_congr (peer s c) (land s) (landed_eq 0 (land s) f (acc m s.castSucc c))))) $$ [Hs Hd HO Ht Ht']
  · isplitr; · iapply (inv_send m K c s); iexact HR
    isplitr; · iapply (inv_recv m K (peer s c) s); iexact HR
    isplitl [Hs]; · iexact Hs
    isplitl [Hd]; · iexact Hd
    isplitl [HO]; · iexact HO
    isplitl [Ht]; · iexact Ht
    isplitr; · iapply (reached_send m K c s); iexact HR
    isplitl [Ht']; · iexact Ht'
    iapply (reached_recv m K (peer s c) s); iexact HR
  iintro ⟨Hc, HO⟩
  iapply Hk
  isplitl [Hc]; · iexact Hc
  iexists W; iexact HO

/-- The wait on send cell `s`: slot 0 back. -/
theorem wait_send (s : Fin 3) {qs : DmaSem sig} (hs : qs = sendQ s) {srcM : Memref sig .tc .vmem S9x256x128 .bf16}
    {hsrc : srcM.view.WordExact} {hdst : (slotM 0).view.WordExact}
    {Q : α → sProp 𝕄} {p : PUnit → Prog (TpuEff nD τ sig (Elt F) Λ₀ .tc) α} :
    iprop(records m K ∗ levAts L lv ∗ ow c (owe s.succ c) ∗ cred (tallyAt (sendCell c s) () N) ∗ atPos ER (sendCell c s) 0 ∅ 0)
      ⊢ iprop(((ow c (owe s.succ c) ∗ atPos ER (sendCell c s) 1 ∅ 0 ∗ slotAt c 0 (slotBuf (acc m s.castSucc c)))
              -∗ wp frame (wpE (defs₀ (F := F)) 𝒱₀ (c : Thread nD τ) none) Set.univ (p ⟨⟩) Q)
        -∗ wp frame (wpE (defs₀ (F := F)) 𝒱₀ (c : Thread nD τ) none) Set.univ (.op (.waitDma2 qs srcM (slotM 0) hsrc hdst) p) Q) := by
  subst hs
  unfold ow
  iintro ⟨#HR, #Hlev, ⟨%W, HO⟩, Hc, Hat⟩ Hk
  iapply (Rounds.wp_wait_rest_token 𝒱₀ ER (ringRd m) (c : Thread nD τ) none (κ := K (c, sendK s))
      (wpE_waitDma2_eq 𝒱₀ (c : Thread nD τ) none Set.univ) (Set.mem_univ _) () (O := owe s.succ c) (W := W) (R := 0) (m := 0) (T := ∅)
      (by rw [expect_send, Nat.zero_add])) $$ [Hc HO Hat]
  · isplitr; · iapply (inv_send m K c s); iexact HR
    isplitl [Hc]; · iexact Hc
    isplitl [HO]; · iexact HO
    isplitr
    · iapply (mayWait_owe c (.dma (sendQ s)) s.succ (by rw [show lv ((c : Thread nD τ), .dma (sendQ s)) () = 0 from by fin_cases s <;> rfl]; exact Nat.zero_le _)); iexact Hlev
    iexact Hat
  iintro ⟨HO, Hat, -, Hpay⟩
  ihave Hp := (Entails.of_eq (rest_send m c s)) $$ Hpay
  unfold sendPay
  iapply Hk
  isplitl [HO]; · iexists _; iexact HO
  isplitl [Hat] <;> iassumption

/-- The wait on receive cell `s`: the landing slot, holding the partner's slot 0. -/
theorem wait_recv (s : Fin 3) {qr : DmaSem sig} (hr : qr = recvQ s) {srcM : Memref sig .tc .vmem S9x256x128 .bf16}
    {hsrc : srcM.view.WordExact} {hdst : (slotM (land s)).view.WordExact}
    {Q : α → sProp 𝕄} {p : PUnit → Prog (TpuEff nD τ sig (Elt F) Λ₀ .tc) α} :
    iprop(records m K ∗ levAts L lv ∗ ow c (owe s.succ c) ∗ cred (tallyAt (recvCell c s) () N) ∗ atPos ER (recvCell c s) 0 ∅ 0)
      ⊢ iprop(((ow c (owe s.succ c) ∗ atPos ER (recvCell c s) 1 ∅ 0 ∗ slotAt c (land s) (slotBuf (acc m s.castSucc (peer s c))))
              -∗ wp frame (wpE (defs₀ (F := F)) 𝒱₀ (c : Thread nD τ) none) Set.univ (p ⟨⟩) Q)
        -∗ wp frame (wpE (defs₀ (F := F)) 𝒱₀ (c : Thread nD τ) none) Set.univ (.op (.waitDma2 qr srcM (slotM (land s)) hsrc hdst) p) Q) := by
  subst hr
  unfold ow
  iintro ⟨#HR, #Hlev, ⟨%W, HO⟩, Hc, Hat⟩ Hk
  iapply (Rounds.wp_wait_rest_token 𝒱₀ ER (ringRd m) (c : Thread nD τ) none (κ := K (c, recvK s))
      (wpE_waitDma2_eq 𝒱₀ (c : Thread nD τ) none Set.univ) (Set.mem_univ _) () (O := owe s.succ c) (W := W) (R := 0) (m := 0) (T := ∅)
      (by rw [expect_recv, Nat.zero_add])) $$ [Hc HO Hat]
  · isplitr; · iapply (inv_recv m K c s); iexact HR
    isplitl [Hc]; · iexact Hc
    isplitl [HO]; · iexact HO
    isplitr
    · iapply (mayWait_owe c (.dma (recvQ s)) s.succ (by rw [show lv ((c : Thread nD τ), .dma (recvQ s)) () = 2 + s.val from lv_recv c s, Fin.val_succ]; omega)); iexact Hlev
    iexact Hat
  iintro ⟨HO, Hat, -, Hpay⟩
  ihave Hp := (Entails.of_eq (rest_recv m c s)) $$ Hpay
  unfold recvPay
  iapply Hk
  isplitl [HO]; · iexists _; iexact HO
  isplitl [Hat] <;> iassumption

end

end Cert.KernelIdealProof

end
-- ==== Proof.KernelIdeal.Parts.lean ====
/-
# The body on one device

The body of the kernel on device `c`, part by part in program order. Each part takes what it reads and
writes, and hands it on with the values it returns named (`Vals.lean`).
-/
module

public import proofs.«01_k».proof.Proof.KernelIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The staged inputs of device `c`, as fetched. -/
def ins (c : Dev nD) : sProp 𝕄 :=
  iprop((((c : Thread nD τ).loc cc0_stg0_0) ↦{fullShare} xv m c) ∗ (((c : Thread nD τ).loc cc0_stg1_0) ↦{fullShare} wv m c)
    ∗ (((c : Thread nD τ).loc cc0_stg2_0) ↦{fullShare} wov m c) ∗ (((c : Thread nD τ).loc cc0_stg3_0) ↦{fullShare} kv m c)
    ∗ (((c : Thread nD τ).loc cc0_stg4_0) ↦{fullShare} vv m c))

variable (c : Dev nD)

/-- The values of device `c`, by batch and head: queries, weighted sums, sums of weights, normalized heads. -/
abbrev qC (b : Fin 2) : FVec F S256x512 .f32 := qOf (xv m c) (wv m c) b
abbrev qHC (b : Fin 2) (h : Fin 8) : FVec F S256x64 .f32 := qH (xv m c) (wv m c) b h
abbrev oC (b : Fin 2) (h : Fin 8) : FVec F S256x64 .f32 := oPart (xv m c) (wv m c) (kv m c) (vv m c) b h
abbrev lC (b : Fin 2) (h : Fin 8) : FVec F S256x1 .f32 := lPart (xv m c) (wv m c) (kv m c) b h
abbrev rowC (j : Fin 9) : FVec F S1x1x256x128 .bf16 := packRow (xv m c) (wv m c) (kv m c) (vv m c) j
abbrev aC (b : Fin 2) (h : Fin 8) : FVec F S256x64 .f32 := attnH (acc m 3 c) b h
/-- What a load of batch `b` of `x`, of `Wq`, of `Wo`, or of a head's place in the summed rows reads. -/
abbrev xRd (b : Fin 2) : Vec F S1x256x768 .f32 := (xM : Memref sig .tc .vmem S2x256x768 .f32).view.readAt (Elt F) (xRect b).toLoadRect (xv m c)
abbrev wRd : Vec F S768x512 .f32 := (wM : Memref sig .tc .vmem S768x512 .f32).view.readAt (Elt F) wRect.toLoadRect (wv m c)
abbrev woRd : Vec F S512x768 .f32 := (woM : Memref sig .tc .vmem S512x768 .f32).view.readAt (Elt F) woRect.toLoadRect (wov m c)
abbrev aORd (b : Fin 2) (h : Fin 8) : Vec F S1x1x256x64 .bf16 := (cM : Memref sig .tc .vmem S4x9x256x128 .bf16).view.readAt (Elt F) (aORect b h).toLoadRect (slotBuf (acc m 3 c))
abbrev aLRd (b : Fin 2) (h : Fin 8) : Vec F S1x1x256x1 .bf16 := (cM : Memref sig .tc .vmem S4x9x256x128 .bf16).view.readAt (Elt F) (aLRect b h).toLoadRect (slotBuf (acc m 3 c))
abbrev slotRd (k : Fin 4) (v : FVec F S9x256x128 .bf16) : Vec F S1x9x256x128 .bf16 := (cM : Memref sig .tc .vmem S4x9x256x128 .bf16).view.readAt (Elt F) (slotRect k).toLoadRect (slotBuf v)

/-- Slot 0 after rows 0 to 3 are stored, and after all nine. -/
abbrev rows3 (f : (cc0_scratch0 : Ref sig .tc).ty.Contents (Elt F)) : (cc0_scratch0 : Ref sig .tc).ty.Contents (Elt F) :=
  rowUpd 3 (rowC m c 3) (rowUpd 2 (rowC m c 2) (rowUpd 1 (rowC m c 1) (rowUpd 0 (rowC m c 0) f)))

variable (K : Dev nD × Fin 7 → ℕ)
/-- The signals, the wait on the barrier, and the first loads. -/
theorem part1_spec {Q : _ → sProp 𝕄} (f : (cc0_scratch0 : Ref sig .tc).ty.Contents (Elt F)) :
    (iprop(records m K ∗ levAts L lv ∗ ow c (O₀ c) ∗ cred (tallyAt (barCell c) () 3) ∗ atPos ER (barCell c) 0 ∅ 0 ∗ (dutyTok ER (barCell (peer 0 c)) 0 0 ∗ dutyTok ER (barCell (peer 1 c)) 0 1 ∗ dutyTok ER (barCell (peer 2 c)) 0 2)
        ∗ slotAt c 1 f ∗ slotAt c 2 f ∗ slotAt c 3 f ∗ ins m c) : sProp 𝕄)
      ⊢ iprop(((ow c (owe 0 c) ∗ atPos ER (barCell c) 1 ∅ 0 ∗ (∃ f, slotAt (peer 0 c) (land 0) f) ∗ (∃ f, slotAt (peer 1 c) (land 1) f) ∗ (∃ f, slotAt (peer 2 c) (land 2) f) ∗ ins m c) -∗ ∀ r, ⌜r = ⟨c, (Scalar.remsi (Scalar.divsi (Dev.word c) 1#32) 8#32), qC m c 0, (k0_pay3 (kH (vv m c) 0 0)), (k0_pay4 (xRd m c 0) (wRd m c) (kH (kv m c) 0 0))⟩⌝ -∗ Q r)
        -∗ wp frame (wpE (defs₀ (F := F)) 𝒱₀ (c : Thread nD τ) none) Set.univ
          (k0_part1 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2) Q) := by
  simp only [k0_part1_eq_skeleton]; unfold k0_part1_skel
  simp only [semSignalWord, semWaitWord, Prog.lift, Prog.bind_op, Prog.bind_ret, Prog.pure_eq_ret, wp_deviceId]
  unfold ins
  iintro ⟨#HR, #Hlev, HO, Hc, Hat, ⟨Ht0, Ht1, Ht2⟩, Hs1, Hs2, Hs3, ⟨Hx, Hw, Hwo, Hk, Hv⟩⟩ HQ
  iapply (signal_peer m c K 0 (dev1_eq c) (O₁ c) (by decide)) $$ [HO Ht0 Hs1]
  · isplitr; · iexact HR
    isplitl [HO]; · iexact HO
    isplitl [Ht0]; · iexact Ht0
    iexact Hs1
  iintro HO
  iapply (signal_peer m c K 1 (dev2_eq c) (O₂ c) (by decide)) $$ [HO Ht1 Hs2]
  · isplitr; · iexact HR
    isplitl [HO]; · iexact HO
    isplitl [Ht1]; · iexact Ht1
    iexact Hs2
  iintro HO
  iapply (signal_peer m c K 2 (dev3_eq c) (owe 0 c) (by decide)) $$ [HO Ht2 Hs3]
  · isplitr; · iexact HR
    isplitl [HO]; · iexact HO
    isplitl [Ht2]; · iexact Ht2
    iexact Hs3
  iintro HO
  iapply (wait_bar m c K (by decide)) $$ [HO Hc Hat]
  · isplitr; · iexact HR
    isplitr; · iexact Hlev
    isplitl [HO]; · iexact HO
    isplitl [Hc] <;> iassumption
  iintro ⟨HO, Hat, Hd0, Hd1, Hd2⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [HO Hat Hd0 Hd1 Hd2 Hx Hw Hwo Hk Hv]
  · isplitl [HO]; · iexact HO
    isplitl [Hat]; · iexact Hat
    isplitl [Hd0]; · iexact Hd0
    isplitl [Hd1]; · iexact Hd1
    isplitl [Hd2]; · iexact Hd2
    isplitl [Hx]; · iexact Hx
    isplitl [Hw]; · iexact Hw
    isplitl [Hwo]; · iexact Hwo
    isplitl [Hk]; · iexact Hk
    iexact Hv
  ipureintro; rfl

/-- Heads 0, 1, 2 of batch 0. -/
theorem part2_spec {Q : _ → sProp 𝕄} :
    (iprop(ins m c) : sProp 𝕄)
      ⊢ iprop(((ins m c) -∗ ∀ r, ⌜r = ⟨oC m c 0 0, lC m c 0 0, oC m c 0 1, lC m c 0 1, oC m c 0 2, lC m c 0 2, qHC m c 0 3⟩⌝ -∗ Q r)
        -∗ wp frame (wpE (defs₀ (F := F)) 𝒱₀ (c : Thread nD τ) none) Set.univ
          (k0_part2 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (qC m c 0) (k0_pay3 (kH (vv m c) 0 0)) (k0_pay4 (xRd m c 0) (wRd m c) (kH (kv m c) 0 0))) Q) := by
  simp only [k0_part2_eq_skeleton]; unfold k0_part2_skel
  simp only [semSignalWord, semWaitWord, Prog.lift, Prog.bind_op, Prog.bind_ret, Prog.pure_eq_ret, wp_deviceId]
  unfold ins
  iintro ⟨Hx, Hw, Hwo, Hk, Hv⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [Hx Hw Hwo Hk Hv]
  · isplitl [Hx]; · iexact Hx
    isplitl [Hw]; · iexact Hw
    isplitl [Hwo]; · iexact Hwo
    isplitl [Hk]; · iexact Hk
    iexact Hv
  ipureintro; rfl

/-- Heads 3 and 4, and the scores of head 5. -/
theorem part3_spec {Q : _ → sProp 𝕄} :
    (iprop(ins m c) : sProp 𝕄)
      ⊢ iprop(((ins m c) -∗ ∀ r, ⌜r = ⟨oC m c 0 3, lC m c 0 3, oC m c 0 4, lC m c 0 4, (k0_pay21 (kH (vv m c) 0 5)), (k0_pay22 (qC m c 0) (kH (kv m c) 0 5))⟩⌝ -∗ Q r)
        -∗ wp frame (wpE (defs₀ (F := F)) 𝒱₀ (c : Thread nD τ) none) Set.univ
          (k0_part3 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (qC m c 0) (qHC m c 0 3)) Q) := by
  simp only [k0_part3_eq_skeleton]; unfold k0_part3_skel
  simp only [semSignalWord, semWaitWord, Prog.lift, Prog.bind_op, Prog.bind_ret, Prog.pure_eq_ret, wp_deviceId]
  unfold ins
  iintro ⟨Hx, Hw, Hwo, Hk, Hv⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [Hx Hw Hwo Hk Hv]
  · isplitl [Hx]; · iexact Hx
    isplitl [Hw]; · iexact Hw
    isplitl [Hwo]; · iexact Hwo
    isplitl [Hk]; · iexact Hk
    iexact Hv
  ipureintro; rfl

/-- Heads 5, 6, 7. -/
theorem part4_spec {Q : _ → sProp 𝕄} :
    (iprop(ins m c) : sProp 𝕄)
      ⊢ iprop(((ins m c) -∗ ∀ r, ⌜r = ⟨oC m c 0 5, lC m c 0 5, oC m c 0 6, lC m c 0 6, oC m c 0 7, lC m c 0 7⟩⌝ -∗ Q r)
        -∗ wp frame (wpE (defs₀ (F := F)) 𝒱₀ (c : Thread nD τ) none) Set.univ
          (k0_part4 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (qC m c 0) (k0_pay21 (kH (vv m c) 0 5)) (k0_pay22 (qC m c 0) (kH (kv m c) 0 5))) Q) := by
  simp only [k0_part4_eq_skeleton]; unfold k0_part4_skel
  simp only [semSignalWord, semWaitWord, Prog.lift, Prog.bind_op, Prog.bind_ret, Prog.pure_eq_ret, wp_deviceId]
  unfold ins
  iintro ⟨Hx, Hw, Hwo, Hk, Hv⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [Hx Hw Hwo Hk Hv]
  · isplitl [Hx]; · iexact Hx
    isplitl [Hw]; · iexact Hw
    isplitl [Hwo]; · iexact Hwo
    isplitl [Hk]; · iexact Hk
    iexact Hv
  ipureintro; rfl

/-- Batch 1: its queries, heads 0 and 1. -/
theorem part5_spec {Q : _ → sProp 𝕄} :
    (iprop(ins m c) : sProp 𝕄)
      ⊢ iprop(((ins m c) -∗ ∀ r, ⌜r = ⟨qC m c 1, oC m c 1 0, lC m c 1 0, oC m c 1 1, lC m c 1 1, qHC m c 1 2⟩⌝ -∗ Q r)
        -∗ wp frame (wpE (defs₀ (F := F)) 𝒱₀ (c : Thread nD τ) none) Set.univ
          (k0_part5 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2) Q) := by
  simp only [k0_part5_eq_skeleton]; unfold k0_part5_skel
  simp only [semSignalWord, semWaitWord, Prog.lift, Prog.bind_op, Prog.bind_ret, Prog.pure_eq_ret, wp_deviceId]
  unfold ins
  iintro ⟨Hx, Hw, Hwo, Hk, Hv⟩ HQ
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [Hx Hw Hwo Hk Hv]
  · isplitl [Hx]; · iexact Hx
    isplitl [Hw]; · iexact Hw
    isplitl [Hwo]; · iexact Hwo
    isplitl [Hk]; · iexact Hk
    iexact Hv
  ipureintro; rfl

/-- Heads 2 and 3, and the scores of head 4. -/
theorem part6_spec {Q : _ → sProp 𝕄} :
    (iprop(ins m c) : sProp 𝕄)
      ⊢ iprop(((ins m c) -∗ ∀ r, ⌜r = ⟨oC m c 1 2, lC m c 1 2, oC m c 1 3, lC m c 1 3, (k0_pay46 (kH (vv m c) 1 4)), (k0_pay47 (qC m c 1) (kH (kv m c) 1 4)), (Scalar.ofBits (F := F) .f32 0x3E000000#32)⟩⌝ -∗ Q r)
        -∗ wp frame (wpE (defs₀ (F := F)) 𝒱₀ (c : Thread nD τ) none) Set.univ
          (k0_part6 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (qC m c 1) (qHC m c 1 2)) Q) := by
  simp only [k0_part6_eq_skeleton]; unfold k0_part6_skel
  simp only [semSignalWord, semWaitWord, Prog.lift, Prog.bind_op, Prog.bind_ret, Prog.pure_eq_ret, wp_deviceId]
  unfold ins
  iintro ⟨Hx, Hw, Hwo, Hk, Hv⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [Hx Hw Hwo Hk Hv]
  · isplitl [Hx]; · iexact Hx
    isplitl [Hw]; · iexact Hw
    isplitl [Hwo]; · iexact Hwo
    isplitl [Hk]; · iexact Hk
    iexact Hv
  ipureintro; rfl

/-- Heads 4, 5, 6. -/
theorem part7_spec {Q : _ → sProp 𝕄} :
    (iprop(ins m c) : sProp 𝕄)
      ⊢ iprop(((ins m c) -∗ ∀ r, ⌜r = ⟨oC m c 1 4, lC m c 1 4, oC m c 1 5, lC m c 1 5, oC m c 1 6, lC m c 1 6, qHC m c 1 7⟩⌝ -∗ Q r)
        -∗ wp frame (wpE (defs₀ (F := F)) 𝒱₀ (c : Thread nD τ) none) Set.univ
          (k0_part7 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (qC m c 1) (k0_pay46 (kH (vv m c) 1 4)) (k0_pay47 (qC m c 1) (kH (kv m c) 1 4)) (Scalar.ofBits (F := F) .f32 0x3E000000#32)) Q) := by
  simp only [k0_part7_eq_skeleton]; unfold k0_part7_skel
  simp only [semSignalWord, semWaitWord, Prog.lift, Prog.bind_op, Prog.bind_ret, Prog.pure_eq_ret, wp_deviceId]
  unfold ins
  iintro ⟨Hx, Hw, Hwo, Hk, Hv⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]; imodintro
  iapply HQ $$ [Hx Hw Hwo Hk Hv]
  · isplitl [Hx]; · iexact Hx
    isplitl [Hw]; · iexact Hw
    isplitl [Hwo]; · iexact Hwo
    isplitl [Hk]; · iexact Hk
    iexact Hv
  ipureintro; rfl

/-- Head 7, and the stores of rows 0 to 3. -/
theorem part8_spec {Q : _ → sProp 𝕄} (f : (cc0_scratch0 : Ref sig .tc).ty.Contents (Elt F)) :
    (iprop(ins m c ∗ slotAt c 0 f) : sProp 𝕄)
      ⊢ iprop(((ins m c ∗ slotAt c 0 (rows3 m c f)) -∗ ∀ r, ⌜r = ⟨oC m c 1 7, lC m c 1 7⟩⌝ -∗ Q r)
        -∗ wp frame (wpE (defs₀ (F := F)) 𝒱₀ (c : Thread nD τ) none) Set.univ
          (k0_part8 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (oC m c 0 0) (oC m c 0 1) (oC m c 0 2) (oC m c 0 3) (oC m c 0 4) (oC m c 0 5) (oC m c 0 6) (oC m c 0 7) (qHC m c 1 7)) Q) := by
  simp only [k0_part8_eq_skeleton]; unfold k0_part8_skel
  simp only [semSignalWord, semWaitWord, Prog.lift, Prog.bind_op, Prog.bind_ret, Prog.pure_eq_ret, wp_deviceId]
  unfold ins
  iintro ⟨⟨Hx, Hw, Hwo, Hk, Hv⟩, Hs⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (load_slot c 0) $$ [Hs]
  · isplitr; · ipureintro; exact ⟨rfl, rfl⟩
    iexact Hs
  iintro Hs
  iapply (store_row c 0 (rowC m c 0)) $$ [Hs]
  · isplitr; · ipureintro; rfl
    iexact Hs
  iintro Hs
  iapply (load_slot c 0) $$ [Hs]
  · isplitr; · ipureintro; exact ⟨rfl, rfl⟩
    iexact Hs
  iintro Hs
  iapply (store_row c 1 (rowC m c 1)) $$ [Hs]
  · isplitr; · ipureintro; rfl
    iexact Hs
  iintro Hs
  iapply (load_slot c 0) $$ [Hs]
  · isplitr; · ipureintro; exact ⟨rfl, rfl⟩
    iexact Hs
  iintro Hs
  iapply (store_row c 2 (rowC m c 2)) $$ [Hs]
  · isplitr; · ipureintro; rfl
    iexact Hs
  iintro Hs
  iapply (load_slot c 0) $$ [Hs]
  · isplitr; · ipureintro; exact ⟨rfl, rfl⟩
    iexact Hs
  iintro Hs
  iapply (store_row c 3 (rowC m c 3)) $$ [Hs]
  · isplitr; · ipureintro; rfl
    iexact Hs
  iintro Hs
  rw [wp_ret]; imodintro
  iapply HQ $$ [Hx Hw Hwo Hk Hv Hs]
  · isplitl [Hx Hw Hwo Hk Hv]
    · isplitl [Hx]; · iexact Hx
      isplitl [Hw]; · iexact Hw
      isplitl [Hwo]; · iexact Hwo
      isplitl [Hk] <;> iassumption
    iexact Hs
  ipureintro; rfl

/-- The stores of rows 4 to 8: slot 0 then holds the device's nine rows. -/
theorem part9_spec {Q : _ → sProp 𝕄} (f : (cc0_scratch0 : Ref sig .tc).ty.Contents (Elt F)) :
    (iprop(slotAt c 0 (rows3 m c f)) : sProp 𝕄)
      ⊢ iprop(((slotAt c 0 (slotBuf (acc m 0 c))) -∗ ∀ r, ⌜r = ⟨(Scalar.xori (Scalar.remsi (Scalar.divsi (Dev.word c) 1#32) 8#32) 1#32), 1#32⟩⌝ -∗ Q r)
        -∗ wp frame (wpE (defs₀ (F := F)) 𝒱₀ (c : Thread nD τ) none) Set.univ
          (k0_part9 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (Scalar.remsi (Scalar.divsi (Dev.word c) 1#32) 8#32) (lC m c 0 0) (lC m c 0 1) (lC m c 0 2) (lC m c 0 3) (lC m c 0 4) (lC m c 0 5) (lC m c 0 6) (lC m c 0 7) (oC m c 1 0) (lC m c 1 0) (oC m c 1 1) (lC m c 1 1) (oC m c 1 2) (lC m c 1 2) (oC m c 1 3) (lC m c 1 3) (oC m c 1 4) (lC m c 1 4) (oC m c 1 5) (lC m c 1 5) (oC m c 1 6) (lC m c 1 6) (oC m c 1 7) (lC m c 1 7)) Q) := by
  simp only [k0_part9_eq_skeleton]; unfold k0_part9_skel
  simp only [semSignalWord, semWaitWord, Prog.lift, Prog.bind_op, Prog.bind_ret, Prog.pure_eq_ret, wp_deviceId]
  iintro Hs HQ
  iapply (load_slot c 0) $$ [Hs]
  · isplitr; · ipureintro; exact ⟨rfl, rfl⟩
    iexact Hs
  iintro Hs
  iapply (store_row c 4 (rowC m c 4)) $$ [Hs]
  · isplitr; · ipureintro; rfl
    iexact Hs
  iintro Hs
  iapply (load_slot c 0) $$ [Hs]
  · isplitr; · ipureintro; exact ⟨rfl, rfl⟩
    iexact Hs
  iintro Hs
  iapply (store_row c 5 (rowC m c 5)) $$ [Hs]
  · isplitr; · ipureintro; rfl
    iexact Hs
  iintro Hs
  iapply (load_slot c 0) $$ [Hs]
  · isplitr; · ipureintro; exact ⟨rfl, rfl⟩
    iexact Hs
  iintro Hs
  iapply (store_row c 6 (rowC m c 6)) $$ [Hs]
  · isplitr; · ipureintro; rfl
    iexact Hs
  iintro Hs
  iapply (load_slot c 0) $$ [Hs]
  · isplitr; · ipureintro; exact ⟨rfl, rfl⟩
    iexact Hs
  iintro Hs
  iapply (store_row c 7 (rowC m c 7)) $$ [Hs]
  · isplitr; · ipureintro; rfl
    iexact Hs
  iintro Hs
  iapply (load_slot c 0) $$ [Hs]
  · isplitr; · ipureintro; exact ⟨rfl, rfl⟩
    iexact Hs
  iintro Hs
  iapply (store_row c 8 (rowC m c 8)) $$ [Hs]
  · isplitr; · ipureintro; rfl
    iexact Hs
  iintro Hs
  ihave Hs := (Entails.of_eq (slotAt_congr c 0 (pack_eq (xv m c) (wv m c) (kv m c) (vv m c) f))) $$ Hs
  rw [wp_ret]; imodintro
  iapply HQ $$ [Hs]
  · iexact Hs
  ipureintro; rfl

/-- Exchange 0: the transfer and its two waits. -/
theorem part10_spec {Q : _ → sProp 𝕄} (v262 c1 : BitVec 32) (f : (cc0_scratch0 : Ref sig .tc).ty.Contents (Elt F)) :
    (iprop(records m K ∗ levAts L lv ∗ slotAt c 0 (slotBuf (acc m 0 c)) ∗ slotAt (peer 0 c) (land 0) f ∗ ow c (owe 0 c) ∗ stepToks c 0 ∗ cred (tallyAt (recvCell c 0) () N)) : sProp 𝕄)
      ⊢ iprop(((ow c (owe 1 c) ∗ slotAt c 0 (slotBuf (acc m 0 c)) ∗ slotAt c (land 0) (slotBuf (acc m 0 (peer 0 c))) ∗ atPos ER (sendCell c 0) 1 ∅ 0 ∗ atPos ER (recvCell c 0) 1 ∅ 0) -∗ Q ⟨⟩)
        -∗ wp frame (wpE (defs₀ (F := F)) 𝒱₀ (c : Thread nD τ) none) Set.univ
          (k0_part10 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 c v262 c1) Q) := by
  simp only [k0_part10_eq_skeleton]; unfold k0_part10_skel
  simp only [semSignalWord, semWaitWord, Prog.lift, Prog.bind_op, Prog.bind_ret, Prog.pure_eq_ret, wp_deviceId]
  unfold stepToks
  iintro ⟨#HR, #Hlev, Hs, Hd, HO, ⟨Has, Har, Hts, Htr⟩, Hc⟩ HQ
  iapply (send_peer m c K 0 (dev4_eq c) sendS0 recvS0) $$ [Hs Hd HO Hts Htr]
  · isplitr; · iexact HR
    isplitl [Hs]; · iexact Hs
    isplitl [Hd]; · iexact Hd
    isplitl [HO]; · iexact HO
    isplitl [Hts] <;> iassumption
  iintro ⟨Hcs, HO⟩
  iapply (wait_send m c K 0 sendS0) $$ [HO Has Hcs]
  · isplitr; · iexact HR
    isplitr; · iexact Hlev
    isplitl [HO]; · iexact HO
    isplitl [Hcs] <;> iassumption
  iintro ⟨HO, Has, Hs⟩
  iapply (wait_recv m c K 0 recvS0) $$ [HO Har Hc]
  · isplitr; · iexact HR
    isplitr; · iexact Hlev
    isplitl [HO]; · iexact HO
    isplitl [Hc] <;> iassumption
  iintro ⟨HO, Har, Hd⟩
  rw [wp_ret]; imodintro
  iapply HQ
  isplitl [HO]; · iexact HO
  isplitl [Hs]; · iexact Hs
  isplitl [Hd]; · iexact Hd
  isplitl [Has]; · iexact Has
  iexact Har

/-- The sum of exchange 0, and the transfer of exchange 1. -/
theorem part11_spec {Q : _ → sProp 𝕄} (f : (cc0_scratch0 : Ref sig .tc).ty.Contents (Elt F)) :
    (iprop(records m K ∗ slotAt c 0 (slotBuf (acc m 0 c)) ∗ slotAt c (land 0) (slotBuf (acc m 0 (peer 0 c))) ∗ slotAt (peer 1 c) (land 1) f ∗ ow c (owe 1 c) ∗ dutyTok ER (sendCell c 1) 0 0 ∗ dutyTok ER (recvCell (peer 1 c) 1) 0 0) : sProp 𝕄)
      ⊢ iprop(((ow c (owe 2 c) ∗ slotAt c (land 0) (slotBuf (acc m 0 (peer 0 c))) ∗ cred (tallyAt (sendCell c 1) () N)) -∗ ∀ r, ⌜r = (Scalar.xori (Scalar.remsi (Scalar.divsi (Dev.word c) 1#32) 8#32) 2#32)⌝ -∗ Q r)
        -∗ wp frame (wpE (defs₀ (F := F)) 𝒱₀ (c : Thread nD τ) none) Set.univ
          (k0_part11 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 c (Scalar.remsi (Scalar.divsi (Dev.word c) 1#32) 8#32)) Q) := by
  simp only [k0_part11_eq_skeleton]; unfold k0_part11_skel
  simp only [semSignalWord, semWaitWord, Prog.lift, Prog.bind_op, Prog.bind_ret, Prog.pure_eq_ret, wp_deviceId]
  iintro ⟨#HR, Hs, Hd, Hd1, HO, Hts, Htr⟩ HQ
  iapply (load_slot c 0) $$ [Hs]
  · isplitr; · ipureintro; exact ⟨rfl, rfl⟩
    iexact Hs
  iintro Hs
  iapply (load_slot c (land 0)) $$ [Hd]
  · isplitr; · ipureintro; exact ⟨rfl, rfl⟩
    iexact Hd
  iintro Hd
  iapply (load_slot c 0) $$ [Hs]
  · isplitr; · ipureintro; exact ⟨rfl, rfl⟩
    iexact Hs
  iintro Hs
  iapply (store_slot c (acc m 1 c)) $$ [Hs]
  · isplitr; · ipureintro; exact (pay70_eq (acc m 0 c) (acc m 0 (peer 0 c)) 1).trans (acc_succ m 0 c).symm
    iexact Hs
  iintro Hs
  icases Hd with Hd0
  icases Hd1 with Hd
  iapply (send_peer m c K 1 (dev5_eq c) sendS1 recvS1) $$ [Hs Hd HO Hts Htr]
  · isplitr; · iexact HR
    isplitl [Hs]; · iexact Hs
    isplitl [Hd]; · iexact Hd
    isplitl [HO]; · iexact HO
    isplitl [Hts] <;> iassumption
  iintro ⟨Hcs, HO⟩
  rw [wp_ret]; imodintro
  iapply HQ $$ [HO Hd0 Hcs]
  · isplitl [HO]; · iexact HO
    isplitl [Hd0]; · iexact Hd0
    iexact Hcs
  ipureintro; rfl

/-- The waits of exchange 1, and its sum. -/
theorem part12_spec {Q : _ → sProp 𝕄} (v295 : BitVec 32) :
    (iprop(records m K ∗ levAts L lv ∗ ow c (owe 2 c) ∗ cred (tallyAt (sendCell c 1) () N) ∗ atPos ER (sendCell c 1) 0 ∅ 0 ∗ atPos ER (recvCell c 1) 0 ∅ 0 ∗ cred (tallyAt (recvCell c 1) () N)) : sProp 𝕄)
      ⊢ iprop(((ow c (owe 2 c) ∗ slotAt c 0 (slotBuf (acc m 2 c)) ∗ slotAt c (land 1) (slotBuf (acc m 1 (peer 1 c))) ∗ atPos ER (sendCell c 1) 1 ∅ 0 ∗ atPos ER (recvCell c 1) 1 ∅ 0) -∗ ∀ r, ⌜r = (Scalar.xori (Scalar.remsi (Scalar.divsi (Dev.word c) 1#32) 8#32) 4#32)⌝ -∗ Q r)
        -∗ wp frame (wpE (defs₀ (F := F)) 𝒱₀ (c : Thread nD τ) none) Set.univ
          (k0_part12 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (Scalar.remsi (Scalar.divsi (Dev.word c) 1#32) 8#32) v295) Q) := by
  simp only [k0_part12_eq_skeleton]; unfold k0_part12_skel
  simp only [semSignalWord, semWaitWord, Prog.lift, Prog.bind_op, Prog.bind_ret, Prog.pure_eq_ret, wp_deviceId]
  iintro ⟨#HR, #Hlev, HO, Hcs, Has, Har, Hc⟩ HQ
  iapply (wait_send m c K 1 sendS1) $$ [HO Has Hcs]
  · isplitr; · iexact HR
    isplitr; · iexact Hlev
    isplitl [HO]; · iexact HO
    isplitl [Hcs] <;> iassumption
  iintro ⟨HO, Has, Hs⟩
  iapply (wait_recv m c K 1 recvS1) $$ [HO Har Hc]
  · isplitr; · iexact HR
    isplitr; · iexact Hlev
    isplitl [HO]; · iexact HO
    isplitl [Hc] <;> iassumption
  iintro ⟨HO, Har, Hd⟩
  iapply (load_slot c 0) $$ [Hs]
  · isplitr; · ipureintro; exact ⟨rfl, rfl⟩
    iexact Hs
  iintro Hs
  iapply (load_slot c (land 1)) $$ [Hd]
  · isplitr; · ipureintro; exact ⟨rfl, rfl⟩
    iexact Hd
  iintro Hd
  iapply (load_slot c 0) $$ [Hs]
  · isplitr; · ipureintro; exact ⟨rfl, rfl⟩
    iexact Hs
  iintro Hs
  iapply (store_slot c (acc m 2 c)) $$ [Hs]
  · isplitr; · ipureintro; exact (pay70_eq (acc m 1 c) (acc m 1 (peer 1 c)) 2).trans (acc_succ m 1 c).symm
    iexact Hs
  iintro Hs
  rw [wp_ret]; imodintro
  iapply HQ $$ [HO Hs Hd Has Har]
  · isplitl [HO]; · iexact HO
    isplitl [Hs]; · iexact Hs
    isplitl [Hd]; · iexact Hd
    isplitl [Has]; · iexact Has
    iexact Har
  ipureintro; rfl

/-- Exchange 2, and the loads of its two slots. -/
theorem part13_spec {Q : _ → sProp 𝕄} (v328 : BitVec 32) (f : (cc0_scratch0 : Ref sig .tc).ty.Contents (Elt F)) :
    (iprop(records m K ∗ levAts L lv ∗ slotAt c 0 (slotBuf (acc m 2 c)) ∗ slotAt (peer 2 c) (land 2) f ∗ ow c (owe 2 c) ∗ stepToks c 2 ∗ cred (tallyAt (recvCell c 2) () N)) : sProp 𝕄)
      ⊢ iprop(((ow c (owe 3 c) ∗ slotAt c 0 (slotBuf (acc m 2 c)) ∗ slotAt c (land 2) (slotBuf (acc m 2 (peer 2 c))) ∗ atPos ER (sendCell c 2) 1 ∅ 0 ∗ atPos ER (recvCell c 2) 1 ∅ 0) -∗ ∀ r, ⌜r = k0_pay72 (slotRd 0 (acc m 2 c)) (slotRd 3 (acc m 2 (peer 2 c)))⌝ -∗ Q r)
        -∗ wp frame (wpE (defs₀ (F := F)) 𝒱₀ (c : Thread nD τ) none) Set.univ
          (k0_part13 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 c v328) Q) := by
  simp only [k0_part13_eq_skeleton]; unfold k0_part13_skel
  simp only [semSignalWord, semWaitWord, Prog.lift, Prog.bind_op, Prog.bind_ret, Prog.pure_eq_ret, wp_deviceId]
  unfold stepToks
  iintro ⟨#HR, #Hlev, Hs, Hd, HO, ⟨Has, Har, Hts, Htr⟩, Hc⟩ HQ
  iapply (send_peer m c K 2 (dev6_eq c) sendS2 recvS2) $$ [Hs Hd HO Hts Htr]
  · isplitr; · iexact HR
    isplitl [Hs]; · iexact Hs
    isplitl [Hd]; · iexact Hd
    isplitl [HO]; · iexact HO
    isplitl [Hts] <;> iassumption
  iintro ⟨Hcs, HO⟩
  iapply (wait_send m c K 2 sendS2) $$ [HO Has Hcs]
  · isplitr; · iexact HR
    isplitr; · iexact Hlev
    isplitl [HO]; · iexact HO
    isplitl [Hcs] <;> iassumption
  iintro ⟨HO, Has, Hs⟩
  iapply (wait_recv m c K 2 recvS2) $$ [HO Har Hc]
  · isplitr; · iexact HR
    isplitr; · iexact Hlev
    isplitl [HO]; · iexact HO
    isplitl [Hc] <;> iassumption
  iintro ⟨HO, Har, Hd⟩
  iapply (load_slot c 0) $$ [Hs]
  · isplitr; · ipureintro; exact ⟨rfl, rfl⟩
    iexact Hs
  iintro Hs
  iapply (load_slot c (land 2)) $$ [Hd]
  · isplitr; · ipureintro; exact ⟨rfl, rfl⟩
    iexact Hd
  iintro Hd
  rw [wp_ret]; imodintro
  iapply HQ $$ [HO Hs Hd Has Har]
  · isplitl [HO]; · iexact HO
    isplitl [Hs]; · iexact Hs
    isplitl [Hd]; · iexact Hd
    isplitl [Has]; · iexact Has
    iexact Har
  ipureintro; rfl

/-- The last sum; heads 0, 1, 2 of batch 0, normalized. -/
theorem part14_spec {Q : _ → sProp 𝕄} :
    (iprop(slotAt c 0 (slotBuf (acc m 2 c))) : sProp 𝕄)
      ⊢ iprop(((slotAt c 0 (slotBuf (acc m 3 c))) -∗ ∀ r, ⌜r = ⟨aC m c 0 0, aC m c 0 1, aC m c 0 2⟩⌝ -∗ Q r)
        -∗ wp frame (wpE (defs₀ (F := F)) 𝒱₀ (c : Thread nD τ) none) Set.univ
          (k0_part14 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (k0_pay72 (slotRd 0 (acc m 2 c)) (slotRd 3 (acc m 2 (peer 2 c))))) Q) := by
  simp only [k0_part14_eq_skeleton]; unfold k0_part14_skel
  simp only [semSignalWord, semWaitWord, Prog.lift, Prog.bind_op, Prog.bind_ret, Prog.pure_eq_ret, wp_deviceId]
  iintro Hs HQ
  iapply (load_slot c 0) $$ [Hs]
  · isplitr; · ipureintro; exact ⟨rfl, rfl⟩
    iexact Hs
  iintro Hs
  iapply (store_slot c (acc m 3 c)) $$ [Hs]
  · isplitr; · ipureintro; exact (pay70_eq (acc m 2 c) (acc m 2 (peer 2 c)) 3).trans (acc_succ m 2 c).symm
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  rw [wp_ret]; imodintro
  iapply HQ $$ [Hs]
  · iexact Hs
  ipureintro; rfl

/-- Heads 3 to 6. -/
theorem part15_spec {Q : _ → sProp 𝕄} :
    (iprop(slotAt c 0 (slotBuf (acc m 3 c))) : sProp 𝕄)
      ⊢ iprop(((slotAt c 0 (slotBuf (acc m 3 c))) -∗ ∀ r, ⌜r = ⟨aC m c 0 3, aC m c 0 4, aC m c 0 5, aC m c 0 6⟩⌝ -∗ Q r)
        -∗ wp frame (wpE (defs₀ (F := F)) 𝒱₀ (c : Thread nD τ) none) Set.univ
          (k0_part15 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2) Q) := by
  simp only [k0_part15_eq_skeleton]; unfold k0_part15_skel
  simp only [semSignalWord, semWaitWord, Prog.lift, Prog.bind_op, Prog.bind_ret, Prog.pure_eq_ret, wp_deviceId]
  iintro Hs HQ
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  rw [wp_ret]; imodintro
  iapply HQ $$ [Hs]
  · iexact Hs
  ipureintro; rfl

/-- Head 7, the store of batch 0 of the result, and head 0 of batch 1. -/
theorem part16_spec {Q : _ → sProp 𝕄} (g : (cc0_stg5_0 : Ref sig .tc).ty.Contents (Elt F)) :
    (iprop(slotAt c 0 (slotBuf (acc m 3 c)) ∗ ins m c ∗ outPts c g) : sProp 𝕄)
      ⊢ iprop(((slotAt c 0 (slotBuf (acc m 3 c)) ∗ ins m c ∗ outPts c (((oM : Memref sig .tc .vmem S2x256x768 .f32).access (xRect 0) : View sig .tc _ _ _).write (Elt F) g (outRow (acc m 3 c) (wov m c) 0) Finset.univ)) -∗ ∀ r, ⌜r = ⟨aC m c 1 0, k0_pay83 (aORd m c 1 1), k0_pay84 (aLRd m c 1 1)⟩⌝ -∗ Q r)
        -∗ wp frame (wpE (defs₀ (F := F)) 𝒱₀ (c : Thread nD τ) none) Set.univ
          (k0_part16 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (aC m c 0 0) (aC m c 0 1) (aC m c 0 2) (aC m c 0 3) (aC m c 0 4) (aC m c 0 5) (aC m c 0 6)) Q) := by
  simp only [k0_part16_eq_skeleton]; unfold k0_part16_skel
  simp only [semSignalWord, semWaitWord, Prog.lift, Prog.bind_op, Prog.bind_ret, Prog.pure_eq_ret, wp_deviceId]
  unfold ins
  iintro ⟨Hs, ⟨Hx, Hw, Hwo, Hk, Hv⟩, Hout⟩ HQ
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (wp_load 𝒱₀ (c : Thread nD τ) none Set.univ (m := woM) (Finset.subset_univ _)) $$ Hwo; iintro Hwo
  iapply (load_out c) $$ Hout; iintro Hout
  iapply (store_out c 0 (outRow (acc m 3 c) (wov m c) 0)) $$ [Hout]
  · isplitr; · ipureintro; rfl
    iexact Hout
  iintro Hout
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  rw [wp_ret]; imodintro
  iapply HQ $$ [Hs Hx Hw Hwo Hk Hv Hout]
  · isplitl [Hs]; · iexact Hs
    isplitl [Hx Hw Hwo Hk Hv]
    · isplitl [Hx]; · iexact Hx
      isplitl [Hw]; · iexact Hw
      isplitl [Hwo]; · iexact Hwo
      isplitl [Hk] <;> iassumption
    iexact Hout
  ipureintro; rfl

/-- Heads 1 to 4. -/
theorem part17_spec {Q : _ → sProp 𝕄} :
    (iprop(slotAt c 0 (slotBuf (acc m 3 c))) : sProp 𝕄)
      ⊢ iprop(((slotAt c 0 (slotBuf (acc m 3 c))) -∗ ∀ r, ⌜r = ⟨aC m c 1 1, aC m c 1 2, aC m c 1 3, aC m c 1 4, k0_pay89 (aORd m c 1 5)⟩⌝ -∗ Q r)
        -∗ wp frame (wpE (defs₀ (F := F)) 𝒱₀ (c : Thread nD τ) none) Set.univ
          (k0_part17 xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2 (k0_pay83 (aORd m c 1 1)) (k0_pay84 (aLRd m c 1 1))) Q) := by
  simp only [k0_part17_eq_skeleton]; unfold k0_part17_skel
  simp only [semSignalWord, semWaitWord, Prog.lift, Prog.bind_op, Prog.bind_ret, Prog.pure_eq_ret, wp_deviceId]
  iintro Hs HQ
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  rw [wp_ret]; imodintro
  iapply HQ $$ [Hs]
  · iexact Hs
  ipureintro; rfl

end Cert.KernelIdealProof

end
-- ==== Proof.KernelIdeal.Body.lean ====
/-
# The whole body on one device

The parts in order, then the last loads and the last store; and the body as the pipeline calls it.
-/
module

public import proofs.«01_k».proof.Proof.KernelIdeal.Parts
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (c : Dev nD) (K : Dev nD × Fin 7 → ℕ)

/-- What the body starts from on device `c`: the protocol's tokens and positions, its credit, the four slots, the
    staged inputs and the result buffer. -/
def bodyIn (f : (cc0_scratch0 : Ref sig .tc).ty.Contents (Elt F)) (g : (cc0_stg5_0 : Ref sig .tc).ty.Contents (Elt F)) : sProp 𝕄 :=
  iprop(ghost m K c ∗ credits c ∗ levAts L lv ∗ ow c (O₀ c)
    ∗ (slotAt c 0 f ∗ slotAt c 1 f ∗ slotAt c 2 f ∗ slotAt c 3 f) ∗ ins m c ∗ outPts c g)

/-- What it ends with: every cell past its one round, the four slots, the inputs as they were, the result. -/
def bodyOut : sProp 𝕄 :=
  iprop(records m K ∗ ow c 0 ∗ atPos ER (barCell c) 1 ∅ 0
    ∗ (atPos ER (sendCell c 0) 1 ∅ 0 ∗ atPos ER (recvCell c 0) 1 ∅ 0) ∗ (atPos ER (sendCell c 1) 1 ∅ 0 ∗ atPos ER (recvCell c 1) 1 ∅ 0)
    ∗ (atPos ER (sendCell c 2) 1 ∅ 0 ∗ atPos ER (recvCell c 2) 1 ∅ 0)
    ∗ (slotAt c 0 (slotBuf (acc m 3 c)) ∗ slotAt c 1 (slotBuf (acc m 0 (peer 0 c))) ∗ slotAt c 2 (slotBuf (acc m 1 (peer 1 c))) ∗ slotAt c 3 (slotBuf (acc m 2 (peer 2 c))))
    ∗ ins m c ∗ outPts c (outAt m c))

set_option maxHeartbeats 2000000 in
/-- The body on device `c`, its parts one after the other. -/
theorem body_spec (f : (cc0_scratch0 : Ref sig .tc).ty.Contents (Elt F)) (g : (cc0_stg5_0 : Ref sig .tc).ty.Contents (Elt F)) {Q : PUnit → sProp 𝕄} :
    (bodyIn m c K f g : sProp 𝕄)
      ⊢ iprop((bodyOut m c K -∗ Q ⟨⟩) -∗ wp frame (wpE (defs₀ (F := F)) 𝒱₀ (c : Thread nD τ) none) Set.univ
          (cc0_body xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2) Q) := by
  rw [cc0_body_eq_skeleton]; unfold cc0_body_skel
  simp only [k0_part18_eq_skeleton]; unfold k0_part18_skel
  unfold bodyIn bodyOut ghost credits
  iintro ⟨⟨#HR, HaB, HtB, HT0, HT1, HT2⟩, ⟨HcB, Hc0, Hc1, Hc2⟩, #Hlev, HO, ⟨Hs, Hs1, Hs2, Hs3⟩, HI, Hout⟩ HQ
  rw [wp_bind, wp_bind]
  iapply (part1_spec m c K f) $$ [HO HcB HaB HtB Hs1 Hs2 Hs3 HI]
  · isplitr; · iexact HR
    isplitr; · iexact Hlev
    isplitl [HO]; · iexact HO
    isplitl [HcB]; · iexact HcB
    isplitl [HaB]; · iexact HaB
    isplitl [HtB]; · iexact HtB
    isplitl [Hs1]; · iexact Hs1
    isplitl [Hs2]; · iexact Hs2
    isplitl [Hs3] <;> iassumption
  iintro ⟨HO, HaB, ⟨%f0, Hp0⟩, ⟨%f1, Hp1⟩, ⟨%f2, Hp2⟩, HI⟩ %r %hr; subst hr; try dsimp only
  rw [wp_bind]
  iapply (part2_spec m c) $$ [HI]; · iexact HI
  iintro HI %r %hr; subst hr; try dsimp only
  rw [wp_bind]
  iapply (part3_spec m c) $$ [HI]; · iexact HI
  iintro HI %r %hr; subst hr; try dsimp only
  rw [wp_bind]
  iapply (part4_spec m c) $$ [HI]; · iexact HI
  iintro HI %r %hr; subst hr; try dsimp only
  rw [wp_bind]
  iapply (part5_spec m c) $$ [HI]; · iexact HI
  iintro HI %r %hr; subst hr; try dsimp only
  rw [wp_bind]
  iapply (part6_spec m c) $$ [HI]; · iexact HI
  iintro HI %r %hr; subst hr; try dsimp only
  rw [wp_bind]
  iapply (part7_spec m c) $$ [HI]; · iexact HI
  iintro HI %r %hr; subst hr; try dsimp only
  rw [wp_bind]
  iapply (part8_spec m c f) $$ [HI Hs]
  · isplitl [HI] <;> iassumption
  iintro ⟨HI, Hs⟩ %r %hr; subst hr; try dsimp only
  rw [wp_bind]
  iapply (part9_spec m c f) $$ [Hs]; · iexact Hs
  iintro Hs %r %hr; subst hr; try dsimp only
  rw [wp_bind]
  iapply (part10_spec m c K _ _ f0) $$ [Hs Hp0 HO HT0 Hc0]
  · isplitr; · iexact HR
    isplitr; · iexact Hlev
    isplitl [Hs]; · iexact Hs
    isplitl [Hp0]; · iexact Hp0
    isplitl [HO]; · iexact HO
    isplitl [HT0] <;> iassumption
  iintro ⟨HO, Hs, Hs1, HaS0, HaR0⟩
  unfold stepToks
  icases HT1 with ⟨HaS1, HaR1, Hts1, Htr1⟩
  rw [wp_bind]
  iapply (part11_spec m c K f1) $$ [Hs Hs1 Hp1 HO Hts1 Htr1]
  · isplitr; · iexact HR
    isplitl [Hs]; · iexact Hs
    isplitl [Hs1]; · iexact Hs1
    isplitl [Hp1]; · iexact Hp1
    isplitl [HO]; · iexact HO
    isplitl [Hts1] <;> iassumption
  iintro ⟨HO, Hs1, Hcs⟩ %r %hr; subst hr; try dsimp only
  rw [wp_bind]
  iapply (part12_spec m c K _) $$ [HO Hcs HaS1 HaR1 Hc1]
  · isplitr; · iexact HR
    isplitr; · iexact Hlev
    isplitl [HO]; · iexact HO
    isplitl [Hcs]; · iexact Hcs
    isplitl [HaS1]; · iexact HaS1
    isplitl [HaR1]; · iexact HaR1
    iexact Hc1
  iintro ⟨HO, Hs, Hs2, HaS1, HaR1⟩ %r %hr; subst hr; try dsimp only
  rw [wp_bind]
  iapply (part13_spec m c K _ f2) $$ [Hs Hp2 HO HT2 Hc2]
  · isplitr; · iexact HR
    isplitr; · iexact Hlev
    isplitl [Hs]; · iexact Hs
    isplitl [Hp2]; · iexact Hp2
    isplitl [HO]; · iexact HO
    isplitl [HT2]; · unfold stepToks; iexact HT2
    iexact Hc2
  iintro ⟨HO, Hs, Hs3, HaS2, HaR2⟩ %r %hr; subst hr; try dsimp only
  rw [wp_bind]
  iapply (part14_spec m c) $$ [Hs]; · iexact Hs
  iintro Hs %r %hr; subst hr; try dsimp only
  rw [wp_bind]
  iapply (part15_spec m c) $$ [Hs]; · iexact Hs
  iintro Hs %r %hr; subst hr; try dsimp only
  rw [wp_bind]
  iapply (part16_spec m c g) $$ [Hs HI Hout]
  · isplitl [Hs]; · iexact Hs
    isplitl [HI] <;> iassumption
  iintro ⟨Hs, HI, Hout⟩ %r %hr; subst hr; try dsimp only
  rw [wp_bind]
  iapply (part17_spec m c) $$ [Hs]; · iexact Hs
  iintro Hs %r %hr; subst hr; try dsimp only
  simp only [Prog.lift, Prog.bind_op, Prog.bind_ret, Prog.pure_eq_ret]
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  iapply (load_slot c 0) $$ [Hs]
  · isplitr; · ipureintro; exact ⟨rfl, rfl⟩
    iexact Hs
  iintro Hs
  unfold ins
  icases HI with ⟨Hx, Hw, Hwo, Hk, Hv⟩
  iapply (wp_load 𝒱₀ (c : Thread nD τ) none Set.univ (m := woM) (Finset.subset_univ _)) $$ Hwo; iintro Hwo
  rw [wp_ret]; imodintro
  dsimp only
  iapply (load_out c) $$ Hout; iintro Hout
  iapply (store_out c 1 (outRow (acc m 3 c) (wov m c) 1)) $$ [Hout]
  · isplitr; · ipureintro; rfl
    iexact Hout
  iintro Hout
  rw [out_write, wp_ret]; imodintro
  iapply HQ
  isplitr; · iexact HR
  isplitl [HO]; · iexact HO
  isplitl [HaB]; · iexact HaB
  isplitl [HaS0 HaR0]; · isplitl [HaS0] <;> iassumption
  isplitl [HaS1 HaR1]; · isplitl [HaS1] <;> iassumption
  isplitl [HaS2 HaR2]; · isplitl [HaS2] <;> iassumption
  isplitl [Hs Hs1 Hs2 Hs3]
  · isplitl [Hs]; · iexact Hs
    isplitl [Hs1]; · iexact Hs1
    isplitl [Hs2]; · iexact Hs2
    iexact Hs3
  isplitl [Hx Hw Hwo Hk Hv]
  · isplitl [Hx]; · iexact Hx
    isplitl [Hw]; · iexact Hw
    isplitl [Hwo]; · iexact Hwo
    isplitl [Hk] <;> iassumption
  iexact Hout

/-! ## The body as the pipeline calls it -/

omit [FloatOps F] in
/-- To own a whole memref with contents `X` is to hold its buffer, at those contents. -/
theorem owns_whole_eq (c : Dev nD) (b : Ref sig .tc) (X : b.ty.Contents (Elt F)) :
    (owns (q := fullShare) (c : Thread nD τ) (Memref.whole b) X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyPre : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
/-- and what it wants back. -/
def bodyPost : sProp 𝕄 :=
  iprop(Φ₁ c ∗ (dats m ρ 0 c).owesAt () t0_0.succ ∗ stg c cc0_stg0_0 (xv m c) ∗ stg c cc0_stg1_0 (wv m c) ∗ stg c cc0_stg2_0 (wov m c)
    ∗ stg c cc0_stg3_0 (kv m c) ∗ stg c cc0_stg4_0 (vv m c) ∗ stg c cc0_stg5_0 (outAt m c))

/-- A cell past its one round is closed: its counter, at zero, is the core's again. -/
theorem close_at (g : GSem nD τ sig) (κ : ℕ) (h : (records m K : sProp 𝕄) ⊢ cellInv ER (ringRd m) κ g) :
    iprop(records m K ∗ atPos ER g 1 ∅ 0) ⊢ (|={Set.univ}=> semVal g 0 : sProp 𝕄) := by
  iintro ⟨HR, Ha⟩
  ihave #HI := h $$ HR
  imod (Rounds.cell_close ER (ringRd m) (Set.mem_univ κ) (fun h => h) (R := 0 + 1) (duties_later m g)) $$ [Ha] with Hz
  · isplitr; · iexact HI
    iexact Ha
  imodintro; iexact Hz

set_option maxHeartbeats 2000000 in
/-- The body from what the pipeline hands it to what the pipeline wants back. -/
theorem sound_body : (bodyPre m ρ c : sProp 𝕄) ⊢ wp frame (wpE (defs₀ (F := F)) 𝒱₀ (c : Thread nD τ) none) Set.univ
    (cc0_body xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2) (fun _ => bodyPost m ρ c) := by
  unfold bodyPre Φ₀ start
  iintro ⟨⟨⟨⟨%K, Hg⟩, Hcr, #Hlev⟩, ⟨%f, Hscr⟩⟩, Ho, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩⟩
  have e0 : g0 = xv m c := by rw [h0]; unfold Dat.before; rw [if_pos (fetch0_0 t0_0)]; rfl
  have e1 : g1 = wv m c := by rw [h1]; unfold Dat.before; rw [if_pos (fetch0_1 t0_0)]; rfl
  have e2 : g2 = wov m c := by rw [h2]; unfold Dat.before; rw [if_pos (fetch0_2 t0_0)]; rfl
  have e3 : g3 = kv m c := by rw [h3]; unfold Dat.before; rw [if_pos (fetch0_3 t0_0)]; rfl
  have e4 : g4 = vv m c := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = O₀ c from rfl]
  ihave Hsl := (scratch_split c f) $$ Hscr
  iapply wp_fupd
  iapply (body_spec m c K f g5) $$ [Hg Hcr HO Hsl H0 H1 H2 H3 H4 H5]
  · unfold bodyIn ins outPts
    isplitl [Hg]; · iexact Hg
    isplitl [Hcr]; · iexact Hcr
    isplitr; · iexact Hlev
    isplitl [HO]; · unfold ow; iexists W; iexact HO
    isplitl [Hsl]; · iexact Hsl
    isplitl [H0 H1 H2 H3 H4]
    · isplitl [H0]; · iexact H0
      isplitl [H1]; · iexact H1
      isplitl [H2]; · iexact H2
      isplitl [H3] <;> iassumption
    iexact H5
  unfold bodyOut ins outPts ow
  iintro ⟨#HR, ⟨%W', HO⟩, HaB, ⟨HaS0, HaR0⟩, ⟨HaS1, HaR1⟩, ⟨HaS2, HaR2⟩, ⟨Hs0, Hs1, Hs2, Hs3⟩, ⟨H0, H1, H2, H3, H4⟩, H5⟩
  imod (close_at m K (barCell c) _ (inv_bar m K c)) $$ [HaB] with HzB
  · isplitr; · iexact HR
    iexact HaB
  imod (close_at m K (sendCell c 0) _ (inv_send m K c 0)) $$ [HaS0] with HzS0
  · isplitr; · iexact HR
    iexact HaS0
  imod (close_at m K (sendCell c 1) _ (inv_send m K c 1)) $$ [HaS1] with HzS1
  · isplitr; · iexact HR
    iexact HaS1
  imod (close_at m K (sendCell c 2) _ (inv_send m K c 2)) $$ [HaS2] with HzS2
  · isplitr; · iexact HR
    iexact HaS2
  imod (close_at m K (recvCell c 0) _ (inv_recv m K c 0)) $$ [HaR0] with HzR0
  · isplitr; · iexact HR
    iexact HaR0
  imod (close_at m K (recvCell c 1) _ (inv_recv m K c 1)) $$ [HaR1] with HzR1
  · isplitr; · iexact HR
    iexact HaR1
  imod (close_at m K (recvCell c 2) _ (inv_recv m K c 2)) $$ [HaR2] with HzR2
  · isplitr; · iexact HR
    iexact HaR2
  ihave Hscr := (scratch_join c _ _ _ _) $$ [Hs0 Hs1 Hs2 Hs3]
  · isplitl [Hs0]; · iexact Hs0
    isplitl [Hs1]; · iexact Hs1
    isplitl [Hs2]; · iexact Hs2
    iexact Hs3
  imodintro
  unfold bodyPost Φ₁ Dat.owesAt Pipeline.owesWithin
  rw [show (dats m ρ 0 c).owed t0_0.succ = 0 from rfl]
  isplitl [Hscr HzS0 HzS1 HzS2 HzR0 HzR1 HzR2 HzB]
  · isplitl [Hscr]; · iexact Hscr
    isplitl [HzS0 HzS1 HzS2 HzR0 HzR1 HzR2]
    · isplitl [HzS0]; · iexact HzS0
      isplitl [HzS1]; · iexact HzS1
      isplitl [HzS2]; · iexact HzS2
      isplitl [HzR0]; · iexact HzR0
      isplitl [HzR1] <;> iassumption
    iexact HzB
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) wM (Memref.isWhole_whole _) woM (Memref.isWhole_whole _) kM (Memref.isWhole_whole _) vM (Memref.isWhole_whole _)
            oM (Memref.isWhole_whole _) cM (Memref.isWhole_whole _) cc0_scratch1 cc0_scratch2) (fun _ => bodyPost m ρ c)
  exact sound_body m ρ c

end Cert.KernelIdealProof

end
-- ==== Proof.KernelIdeal.Launch.lean ====
/-
# The launch

The cells are allocated on every device in one step, the duty tokens dealt to the devices that pay
them, and the launch's credit shown to be what every device waits with. Then the run: from any memory with
zero counters the program terminates, the five arguments hold what they held, the result array of
device `c` holds `outAt m c`, and every counter is zero again.
-/
module

public import proofs.«01_k».proof.Proof.KernelIdeal.Body
public import Idealize.ShloMosaic.Lib.Pipeline.Launch
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The semaphores the kernel uses itself are none of the pipeline's. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The seven semaphores of a device are distinct, -/
theorem csem_injective : Function.Injective csem := by decide

/-- and so are the cells of all devices. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  have h2 : k = k' := csem_injective (congrArg Prod.snd h)
  subst h1 h2; rfl
/-- Every device's seven cells. -/
def ringCells : Finset (GSem nD τ sig) := Finset.univ.map ⟨kcell, kcell_injective⟩

/-- Which cell and duty the nine tokens of a device's own cells are: three of its barrier, one of each send and receive cell. -/
abbrev tokKey : Fin 9 → SemLoc sig × Fin 3 := fun
  | 0 => (.reg barS, 0) | 1 => (.reg barS, 1) | 2 => (.reg barS, 2) | 3 => (.dma (sendQ 0), 0) | 4 => (.dma (sendQ 1), 0) | 5 => (.dma (sendQ 2), 0)
  | 6 => (.dma (recvQ 0), 0) | 7 => (.dma (recvQ 1), 0) | 8 => (.dma (recvQ 2), 0)
abbrev tokOf (cj : Dev nD × Fin 9) : GSem nD τ sig × ℕ × Fin 3 := (((cj.1 : Thread nD τ), (tokKey cj.2).1), 0, (tokKey cj.2).2)
/-- The nine duties of a device are distinct, -/
theorem tokKey_injective : Function.Injective tokKey := by decide
/-- and so are those of all devices. -/
theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  have h2 : j = j' := tokKey_injective (congrArg (fun x : GSem nD τ sig × ℕ × Fin 3 => (x.1.2, x.2.2)) h)
  subst h1 h2; rfl
/-- Every device's nine tokens. -/
def ringToks : Finset (GSem nD τ sig × ℕ × Fin 3) := Finset.univ.map ⟨tokOf, tokOf_injective⟩

/-- The ghost state at the start: the pipeline's and the exchange's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch deals device `c`, -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)
/-- and what the step over all devices makes of it. -/
def G' (c : Dev nD) : sProp 𝕄 := iprop(∃ K, ghost m K c)

omit [FloatOps F] in
/-- Seven separate parts, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- Nine separate parts, written out. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- From the exchange's ghost state, each device's part of it. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's own semaphores at zero, written out. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

/-- A device's cells become invariants, from its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` besides its positions: the tokens of the duties it pays. -/
def payToks (c : Dev nD) : sProp 𝕄 :=
  iprop(dutyTok ER (barCell (peer 0 c)) 0 0 ∗ dutyTok ER (barCell (peer 1 c)) 0 1 ∗ dutyTok ER (barCell (peer 2 c)) 0 2
    ∗ dutyTok ER (sendCell c 0) 0 0 ∗ dutyTok ER (sendCell c 1) 0 0 ∗ dutyTok ER (sendCell c 2) 0 0
    ∗ dutyTok ER (recvCell (peer 0 c) 0) 0 0 ∗ dutyTok ER (recvCell (peer 1 c) 1) 0 0 ∗ dutyTok ER (recvCell (peer 2 c) 2) 0 0)
/-- What of the ghost state only one device holds. -/
def linear (c : Dev nD) : sProp 𝕄 :=
  iprop((atPos ER (barCell c) 0 ∅ 0 ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0) ∗ payToks c)

/-- With the shared records it is what the body of device `c` starts from. -/
theorem ghost_intro (K : Dev nD × Fin 7 → ℕ) (c : Dev nD) : iprop(records m K ∗ linear c) ⊢ G' m c := by
  unfold linear payToks G' ghost stepToks
  iintro ⟨#HR, ⟨HaB, Ha0, Ha1, Ha2, Hr0, Hr1, Hr2⟩, Hb0, Hb1, Hb2, Ht0, Ht1, Ht2, Hv0, Hv1, Hv2⟩
  iexists K
  isplitr; · iexact HR
  isplitl [HaB]; · iexact HaB
  isplitl [Hb0 Hb1 Hb2]
  · isplitl [Hb0]; · iexact Hb0
    isplitl [Hb1] <;> iassumption
  isplitl [Ha0 Hr0 Ht0 Hv0]
  · isplitl [Ha0]; · iexact Ha0
    isplitl [Hr0]; · iexact Hr0
    isplitl [Ht0] <;> iassumption
  isplitl [Ha1 Hr1 Ht1 Hv1]
  · isplitl [Ha1]; · iexact Ha1
    isplitl [Hr1]; · iexact Hr1
    isplitl [Ht1] <;> iassumption
  isplitl [Ha2]; · iexact Ha2
  isplitl [Hr2]; · iexact Hr2
  isplitl [Ht2] <;> iassumption

/-- A device and its partner in exchange `s`, swapped. -/
def swap (s : Fin 3) : Dev nD ≃ Dev nD := ⟨peer s, peer s, fun c => peer_peer s c, fun c => peer_peer s c⟩

omit [FloatOps F] in
/-- The tokens dealt: the barrier's and the receive cells' go to the partner, the send cells' stay. -/
theorem toks_around : (bigSep Finset.univ fun c : Dev nD => (toks c : sProp 𝕄)) ⊢ bigSep Finset.univ fun c : Dev nD => payToks c := by
  unfold toks payToks
  simp only [bigSep_sep']
  rw [bigSep_univ_equiv (swap 0) (fun c : Dev nD => (dutyTok ER (barCell c) 0 0 : sProp 𝕄)),
    bigSep_univ_equiv (swap 1) (fun c : Dev nD => (dutyTok ER (barCell c) 0 1 : sProp 𝕄)),
    bigSep_univ_equiv (swap 2) (fun c : Dev nD => (dutyTok ER (barCell c) 0 2 : sProp 𝕄)),
    bigSep_univ_equiv (swap 0) (fun c : Dev nD => (dutyTok ER (recvCell c 0) 0 0 : sProp 𝕄)),
    bigSep_univ_equiv (swap 1) (fun c : Dev nD => (dutyTok ER (recvCell c 1) 0 0 : sProp 𝕄)),
    bigSep_univ_equiv (swap 2) (fun c : Dev nD => (dutyTok ER (recvCell c 2) 0 0 : sProp 𝕄))]
  iintro H
  iexact H

omit [FloatOps F] in
/-- What may be copied can be given to each of several parts. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The ghost state by cell, regrouped by the device that uses it. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The step over all devices: their own and barrier semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Barrier cells are equal just when their devices are, -/
theorem bar_eq_iff {a b : Dev nD} : Iff (barCell a = barCell b) (a = b) :=
  ⟨fun h => Fin.ext (congrArg (fun g : GSem nD τ sig => g.1.1.val) h), fun h => h ▸ rfl⟩
/-- and so are receive cells. -/
theorem recv_eq_iff {a b : Dev nD} {s : Fin 3} : Iff (recvCell a s = recvCell b s) (a = b) :=
  ⟨fun h => Fin.ext (congrArg (fun g : GSem nD τ sig => g.1.1.val) h), fun h => h ▸ rfl⟩
/-- The three receive semaphores are distinct, -/
theorem recvQ_injective : Function.Injective recvQ := by decide
/-- and so are their cells. -/
theorem recv_ne {a b : Dev nD} {s s' : Fin 3} (h : s ≠ s') : recvCell a s ≠ recvCell b s' := fun h' =>
  h (recvQ_injective (by have := congrArg Prod.snd h'; injection this))

/-- A tally of `n` units at the cell `g d'` seen at the cell `g c`, devices apart by the involution `peer s`. -/
theorem tally_peer {g : Dev nD → GSem nD τ sig} (hg : ∀ a b, Iff (g a = g b) (a = b)) (s : Fin 3) (d c : Dev nD) (n : ℕ) :
    (tallyAt (g (peer s d)) () n : CellTallies nD τ sig Unit) (g c) () = if d = peer s c then n else 0 := by
  rw [tallyAt_apply]
  by_cases h : d = peer s c
  · subst h; rw [peer_peer, if_pos ⟨rfl, rfl⟩, if_pos rfl]
  · rw [if_neg h, if_neg]
    rintro ⟨h1, -⟩
    exact h (by rw [(hg _ _).mp h1, peer_peer])

/-- A tally at one cell counts nothing at another. -/
theorem tally_other {g g' : GSem nD τ sig} (h : g' ≠ g) (n : ℕ) : (tallyAt g () n : CellTallies nD τ sig Unit) g' () = 0 := by
  rw [tallyAt_apply, if_neg fun h' => h h'.1]

/-- A barrier cell is no receive cell. -/
theorem bar_ne_recv {a b : Dev nD} {s : Fin 3} : barCell a ≠ recvCell b s := fun h => by cases congrArg Prod.snd h

/-- What device `d` owes by transfers, at a cell, -/
theorem owe0_at (d : Dev nD) (g : GSem nD τ sig) : owe 0 d g ()
    = (tallyAt (recvCell (peer 2 d) 2) () N : CellTallies nD τ sig Unit) g () + (tallyAt (recvCell (peer 1 d) 1) () N : CellTallies nD τ sig Unit) g ()
      + (tallyAt (recvCell (peer 0 d) 0) () N : CellTallies nD τ sig Unit) g () := by
  show (0 + _ + _ + _ : CellTallies nD τ sig Unit) g () = _
  rw [zero_add]; rfl
/-- and with its three signals. -/
theorem O₀_at (d : Dev nD) (g : GSem nD τ sig) : O₀ d g ()
    = owe 0 d g () + (tallyAt (barCell (peer 2 d)) () 1 : CellTallies nD τ sig Unit) g () + (tallyAt (barCell (peer 1 d)) () 1 : CellTallies nD τ sig Unit) g ()
      + (tallyAt (barCell (peer 0 d)) () 1 : CellTallies nD τ sig Unit) g () := rfl

/-- What device `d` owes device `c`'s barrier cell: a unit for every `s` with `d = peer s c`. -/
theorem owed_bar (d c : Dev nD) : O₀ d (barCell c) () = (if d = peer 2 c then 1 else 0) + (if d = peer 1 c then 1 else 0) + (if d = peer 0 c then 1 else 0) := by
  rw [O₀_at, owe0_at, tally_other bar_ne_recv, tally_other bar_ne_recv, tally_other bar_ne_recv,
    tally_peer (g := barCell) (fun _ _ => bar_eq_iff), tally_peer (g := barCell) (fun _ _ => bar_eq_iff), tally_peer (g := barCell) (fun _ _ => bar_eq_iff)]
  simp only [Nat.zero_add]

/-- And its receive cell `s`: a slot's credit if `d = peer s c`. -/
theorem owed_recv (d c : Dev nD) (s : Fin 3) : O₀ d (recvCell c s) () = if d = peer s c then N else 0 := by
  rw [O₀_at, owe0_at, tally_other bar_ne_recv.symm, tally_other bar_ne_recv.symm, tally_other bar_ne_recv.symm]
  match s with
  | 0 => rw [tally_other (recv_ne (by decide)), tally_other (recv_ne (by decide)), tally_peer (g := fun c => recvCell c 0) (fun _ _ => recv_eq_iff)]; simp only [Nat.zero_add, Nat.add_zero]
  | 1 => rw [tally_other (recv_ne (by decide)), tally_peer (g := fun c => recvCell c 1) (fun _ _ => recv_eq_iff), tally_other (recv_ne (by decide))]; simp only [Nat.zero_add, Nat.add_zero]
  | 2 => rw [tally_peer (g := fun c => recvCell c 2) (fun _ _ => recv_eq_iff), tally_other (recv_ne (by decide)), tally_other (recv_ne (by decide))]; simp only [Nat.zero_add, Nat.add_zero]

/-- At launch each barrier cell is owed three units in all, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

/-- and each receive cell one transfer. -/
theorem launch_recv (c : Dev nD) (s : Fin 3) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (peer s c) fun _ => N,
    if_pos (Finset.mem_univ _)]

omit [FloatOps F] in
/-- Of a device's semaphores, the four its body waits on for another device. -/
theorem four_of (Φ : SemLoc sig → sProp 𝕄) :
    bigSep Finset.univ Φ ⊢ iprop(Φ (.reg barS) ∗ Φ (.dma (recvQ 0)) ∗ Φ (.dma (recvQ 1)) ∗ Φ (.dma (recvQ 2))) := by
  have h : bigSep Finset.univ Φ ⊢ bigSep ([.reg barS, .dma (recvQ 0), .dma (recvQ 1), .dma (recvQ 2)] : List (SemLoc sig)).toFinset Φ :=
    BI.bigSep_subset (Finset.subset_univ _)
  refine h.trans (Entails.of_eq ?_)
  rw [bigSep_eq_bigSepL_of_eq [.reg barS, .dma (recvQ 0), .dma (recvQ 1), .dma (recvQ 2)] (by decide) (by decide)]; rfl

omit [FloatOps F] in
/-- The launch's credit holds what device `c` waits with. -/
theorem creds (c : Dev nD) : (Pipeline.launchCred O₀ c : sProp 𝕄) ⊢ credits c := by
  unfold Pipeline.launchCred credits
  rw [← launch_bar, ← launch_recv c 0, ← launch_recv c 1, ← launch_recv c 2]
  exact four_of _

/-! ### The side conditions -/

/-- What the body starts from, out of the launch, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- with the exchange buffer; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

/-- and what it ends with is given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%f, Hr⟩, Hz, HzB⟩
  isplitl [HzB]; · iexact HzB
  isplitl [Hz]; · iexact Hz
  iexists f; iexact Hr

/-- A wait of the pipeline is below every debt of the kernel. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- The final contents of a window's array. -/
def finalA (c : Dev nD) (w : Fin cfg0.W) : Buf (Elt F) ((cfg0.win w).arr.view.loc (c : Thread nD τ)) := (dats m ρ 0 c).arrAt w cfg0.N

/-- Every window's array ends at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of @main terminates, with every window's array at its
    final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array ends holding what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

/-- The result array of device `c` ends at `outAt m c`. -/
theorem finalA_out (c : Dev nD) : finalA m ρ c (5 : Fin 6) = outAt m c := by
  have hz : (fun a => (win0_5.index t0_0) a * main_v1.ty.shape.size a) = fun _ => 0 := funext fun a => by fin_cases a <;> decide
  have hr := fun f => Memref.read_access_unit_zero (Elt F) main_v1 hz (fun a => by fin_cases a <;> decide) f
  have ho : (win0_5.blk t0_0).view.read (Elt F) (finalA m ρ c (5 : Fin 6)) = outAt m c := by
    unfold finalA
    rw [show cfg0.N = (t0_0 : Fin cfg0.N).val + 1 from rfl, (dats m ρ 0 c).arrAt_succ (5 : Fin 6) t0_0,
      show (cfg0.win (5 : Fin 6)).flush t0_0 = true from flush0_5 t0_0, if_pos rfl]
    exact View.read_write_univ _ _
  exact (hr _).symm.trans ho

/-- The arguments after the run hold what they held. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c 0 rfl), (h c (1 : Fin 6)).trans (finalA_in m ρ c 1 rfl), (h c (3 : Fin 6)).trans (finalA_in m ρ c 3 rfl),
    (h c (4 : Fin 6)).trans (finalA_in m ρ c 4 rfl), (h c (2 : Fin 6)).trans (finalA_in m ρ c 2 rfl)⟩

/-- The result array of device `c` after the run. -/
theorem result_at {r : PUnit × MemSt nD τ sig (Elt F)} (h : QC m ρ r) (c : Dev nD) :
    r.2.mem ((c.tc : Thread nD τ).loc main_v1) = outAt m c := (h c (5 : Fin 6)).trans (finalA_out m ρ c)

end Cert.KernelIdealProof

end
-- ==== Proof.Value.Softmax.lean ====
/-
# Softmax by chunks, over the extended reals

The reference walks the scores of a row in four chunks, keeping a running maximum `m`, a running sum of
weights `l` and a running weighted sum `o`, and divides at the end. The kernel sums `exp` of the scores as
they are. The two quotients are one extended real when every score is a real number: the running values are
the plain sums times `exp (-m)`, a positive real, which leaves a quotient alone. The values weighted may be
infinite: a positive real distributes over any sum of extended reals.
-/
module

public import Idealize.ShloMosaic.PureOps.Ideal
public import Mathlib.Data.EReal.Operations
public import Mathlib.Data.EReal.Inv

@[expose] public section

noncomputable section

namespace Cert.Softmax

open Idealize.ShloMosaic
open scoped BigOperators

/-- A nonnegative real distributes over a sum of extended reals, whatever its terms. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A greatest element, started from `⊥`, of a nonempty family of reals is a real. -/
theorem fold_max_real {ι : Type} [Fintype ι] [Nonempty ι] (f : ι → EReal) (r : ι → ℝ) (h : ∀ i, f i = (r i : EReal)) :
    ∃ x : ℝ, (Finset.univ : Finset ι).fold max (⊥ : EReal) f = (x : EReal) := by
  obtain ⟨i, _, hi⟩ := Finset.exists_max_image (Finset.univ : Finset ι) r Finset.univ_nonempty
  refine ⟨r i, le_antisymm ?_ ?_⟩
  · rw [Finset.fold_max_le]
    exact ⟨bot_le, fun j hj => by rw [h j]; exact_mod_cast hi j hj⟩
  · rw [Finset.le_fold_max]
    exact Or.inr ⟨i, Finset.mem_univ _, (h i).ge⟩

/-- What the running values are after some chunks whose weights sum to `L` and whose weighted values sum to `O`: nothing
    before the first, and after it a real maximum `m` with `l = exp (-m) · L` and `o = exp (-m) · O`. -/
def Run (m l o : EReal) (L : ℝ) (O : EReal) : Prop :=
  (m = ⊥ ∧ l = 0 ∧ o = 0 ∧ L = 0 ∧ O = 0) ∨
    ∃ x : ℝ, m = (x : EReal) ∧ l = ((Real.exp (-x) * L : ℝ) : EReal) ∧ o = ((Real.exp (-x) : ℝ) : EReal) * O

/-- The values before any chunk. -/
theorem run_start : Run ⊥ 0 0 0 0 := Or.inl ⟨rfl, rfl, rfl, rfl, rfl⟩

/-- One chunk: the running values after it, for any new maximum that is a real. -/
theorem run_step {ι : Type} [Fintype ι] {m l o : EReal} {L : ℝ} {O : EReal} (h : Run m l o L O) (s : ι → EReal) (r : ι → ℝ)
    (hs : ∀ i, s i = (r i : EReal)) (v : ι → EReal) (m' : EReal) (x' : ℝ) (hm' : m' = (x' : EReal)) :
    Run m' (l * Ideal.exp (m - m') + ∑ i, Ideal.exp (s i - m')) (o * Ideal.exp (m - m') + ∑ i, v i * Ideal.exp (s i - m'))
      (L + ∑ i, Real.exp (r i)) (O + ∑ i, ((Real.exp (r i) : ℝ) : EReal) * v i) := by
  subst hm'
  have hw : ∀ i, Ideal.exp (s i - (x' : EReal)) = ((Real.exp (-x') * Real.exp (r i) : ℝ) : EReal) := fun i => by
    rw [hs i, ← EReal.coe_sub, ← Real.exp_add]
    show ((Real.exp (r i - x') : ℝ) : EReal) = _
    rw [show r i - x' = -x' + r i by ring]
  have hL : ∑ i, Ideal.exp (s i - (x' : EReal)) = ((Real.exp (-x') * ∑ i, Real.exp (r i) : ℝ) : EReal) := by
    rw [Finset.mul_sum, coe_sum]; exact Finset.sum_congr rfl fun i _ => hw i
  have hO : ∑ i, v i * Ideal.exp (s i - (x' : EReal)) = ((Real.exp (-x') : ℝ) : EReal) * ∑ i, ((Real.exp (r i) : ℝ) : EReal) * v i := by
    rw [coe_mul_sum _ (Real.exp_pos _).le]
    refine Finset.sum_congr rfl fun i _ => ?_
    rw [hw i, EReal.coe_mul, mul_comm, mul_assoc]
  refine Or.inr ⟨x', rfl, ?_, ?_⟩
  · rw [hL]
    rcases h with ⟨_, rfl, _, rfl, _⟩ | ⟨x, rfl, rfl, _⟩
    · rw [zero_mul, zero_add, zero_add]
    · rw [← EReal.coe_sub]
      show (_ : EReal) * ((Real.exp (x - x') : ℝ) : EReal) + _ = _
      rw [← EReal.coe_mul, ← EReal.coe_add, mul_add]
      congr 2
      rw [mul_right_comm, ← Real.exp_add]
      congr 2; ring
  · rw [hO]
    rcases h with ⟨_, _, rfl, _, rfl⟩ | ⟨x, rfl, _, rfl⟩
    · rw [zero_mul, zero_add, zero_add]
    · rw [← EReal.coe_sub]
      show (_ : EReal) * ((Real.exp (x - x') : ℝ) : EReal) + _ = _
      rw [EReal.left_distrib_of_nonneg_of_ne_top (by exact_mod_cast (Real.exp_pos _).le) (EReal.coe_ne_top _), mul_right_comm,
        ← EReal.coe_mul, ← Real.exp_add]
      congr 3
      ring_nf

/-- At the end the quotient is that of the plain sums. -/
theorem run_div {m l o : EReal} {L : ℝ} {O : EReal} (h : Run m l o L O) (hL : 0 < L) : Ideal.div o l = Ideal.div O (L : EReal) := by
  rcases h with ⟨_, _, _, h0, _⟩ | ⟨x, _, rfl, rfl⟩
  · exact absurd h0 hL.ne'
  · have he := Real.exp_pos (-x)
    unfold Ideal.div
    rw [if_neg (by exact_mod_cast (mul_pos he hL).ne'), if_neg (by exact_mod_cast hL.ne'), ← EReal.coe_inv, ← EReal.coe_inv,
      mul_comm, ← mul_assoc, ← EReal.coe_mul, mul_comm O]
    congr 2
    field_simp

end Cert.Softmax

end
-- ==== Proof.Value.Formula.lean ====
/-
# The attention both programs compute, as formulas

Queries and scores of one row as plain sums over the extended reals, the scores real when the arguments they
are made of are, and a sum over the 4096 rows of keys split into equal parts: the reference's four chunks, the
kernel's eight devices.
-/
module

public import proofs.«01_k».proof.Proof.Value.Softmax
public import Idealize.ShloMosaic.Lib.ValueIdxCore

@[expose] public section

noncomputable section

namespace Cert.Attention

open Idealize.ShloMosaic Idealize.ShloMosaic.ValueIdx
open scoped BigOperators

/-- The scale of the scores, one eighth. -/
def scale : EReal := Ideal.ofBits .f32 0x3E000000#32

/-- The scale is a real. -/
theorem scale_real : ∃ r : ℝ, scale = (r : EReal) := by
  unfold scale
  simp only [Ideal.ofBits, Ideal.ieee]
  refine ⟨(8388608 : ℝ) * ((2 ^ 26)⁻¹ : ℝ), ?_⟩
  rw [EReal.coe_mul]
  simp

/-- Column `64 h + d` of the 512: coordinate `d` of head `h`. -/
def col (h : Fin 8) (d : Fin 64) : Fin 512 := ⟨64 * h.val + d.val, by omega⟩

/-- Coordinate `d` of head `h` of the query of row `i` of batch `b`. -/
def query (x : (⟨3, ![2, 256, 768]⟩ : Shape).Idx → EReal) (w : (⟨2, ![768, 512]⟩ : Shape).Idx → EReal)
    (b : Fin 2) (i : Fin 256) (h : Fin 8) (d : Fin 64) : EReal :=
  ∑ k : Fin 768, x (ix3 b i k) * w (ix2 k (col h d))

/-- The score of that query against a key. -/
def score (x : (⟨3, ![2, 256, 768]⟩ : Shape).Idx → EReal) (w : (⟨2, ![768, 512]⟩ : Shape).Idx → EReal)
    (b : Fin 2) (i : Fin 256) (h : Fin 8) (key : Fin 64 → EReal) : EReal :=
  (∑ d : Fin 64, query x w b i h d * key d) * scale

/-- A sum of products of reals is a real. -/
theorem sum_mul_real {ι : Type} [Fintype ι] (f g : ι → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [Softmax.coe_sum]
  exact Finset.sum_congr rfl fun i _ => by rw [ha, hb, EReal.coe_mul]

/-- Of finite arguments every score is a real. -/
theorem score_real (x : (⟨3, ![2, 256, 768]⟩ : Shape).Idx → EReal) (w : (⟨2, ![768, 512]⟩ : Shape).Idx → EReal)
    (hx : ∀ j, ∃ r : ℝ, x j = (r : EReal)) (hw : ∀ j, ∃ r : ℝ, w j = (r : EReal))
    (b : Fin 2) (i : Fin 256) (h : Fin 8) (key : Fin 64 → EReal) (hk : ∀ d, ∃ r : ℝ, key d = (r : EReal)) :
    ∃ r : ℝ, score x w b i h key = (r : EReal) := by
  obtain ⟨a, ha⟩ := sum_mul_real (query x w b i h) key (fun d => sum_mul_real _ _ (fun _ => hx _) (fun _ => hw _)) hk
  obtain ⟨e, he⟩ := scale_real
  exact ⟨a * e, by unfold score; rw [ha, he, EReal.coe_mul]⟩

/-- A sum over `n · k` positions, as `n` parts of `k`. -/
theorem sum_parts {M : Type} [AddCommMonoid M] (n k N : ℕ) (hN : N = n * k) (f : Fin N → M) :
    ∑ j : Fin N, f j = ∑ a : Fin n, ∑ t : Fin k, f ⟨k * a.val + t.val, by
      have := a.isLt; have := t.isLt; subst hN
      calc k * a.val + t.val < k * a.val + k := by omega
        _ = k * (a.val + 1) := by ring
        _ ≤ k * n := Nat.mul_le_mul_left _ (by omega)
        _ = n * k := Nat.mul_comm _ _⟩ := by
  subst hN
  rw [← Equiv.sum_comp finProdFinEquiv f, Fintype.sum_prod_type]
  refine Finset.sum_congr rfl fun a _ => Finset.sum_congr rfl fun t _ => congrArg f (Fin.ext ?_)
  simp [finProdFinEquiv, Nat.add_comm]

end Cert.Attention

end
-- ==== Proof.Value.Kernel.lean ====
/-
# The kernel, read at an index

A device's weights, sums of weights and weighted sums as formulas over its arguments, where they lie in the
nine rows it packs, the sum of the rows over the eight devices, and the result.
-/
module

public import proofs.«01_k».proof.Proof.Value.Formula
public import proofs.«01_k».proof.Proof.KernelIdeal.Vals
public import Idealize.ShloMosaic.Lib.Pipeline.Value
public import Idealize.ShloMosaic.Lib.MatmulPlain
public import Idealize.ShloMosaic.Lib.ValueIdx
public import Idealize.ShloMosaic.PureOps.Ideal.Laws

@[expose] public section

noncomputable section

namespace Cert.KernelRead

open Cert.KernelIdeal Cert.KernelIdeal.Gen Cert.KernelIdealProof Cert.Attention
open Idealize.ShloMosaic Idealize.ShloMosaic.ValueIdx Idealize.ShloMosaic.TcCoe
open scoped BigOperators

/-! ## One device -/

section Part
variable (x : FVec Ideal S2x256x768 .f32) (w : FVec Ideal S768x512 .f32) (kk vv : FVec Ideal S2x512x8x64 .f32)

/-- A load of batch `b` of `x`, at an index. -/
theorem x_read (b : Fin 2) (i : Fin 256) (k : Fin 768) :
    (xM : Memref sig .tc .vmem S2x256x768 .f32).view.readAt (Elt Ideal) (xRect b).toLoadRect x (ix3 (0 : Fin 1) i k) = x (ix3 b i k) := by
  refine congrArg x (funext fun a => Fin.ext ?_)
  match a with
  | ⟨0, _⟩ => show b.val + 1 * 0 = b.val; omega
  | ⟨1, _⟩ => show 0 + 1 * i.val = i.val; omega
  | ⟨2, _⟩ => show 0 + 1 * k.val = k.val; omega

/-- A load of `Wq`, at an index. -/
theorem w_read (k : Fin 768) (e : Fin 512) :
    (wM : Memref sig .tc .vmem S768x512 .f32).view.readAt (Elt Ideal) wRect.toLoadRect w (ix2 k e) = w (ix2 k e) := by
  refine congrArg w (funext fun a => Fin.ext ?_)
  match a with
  | ⟨0, _⟩ => show 0 + 1 * k.val = k.val; omega
  | ⟨1, _⟩ => show 0 + 1 * e.val = e.val; omega

/-- A load of one head of the keys, or of the values, at an index. -/
theorem k_read (b : Fin 2) (h : Fin 8) (j : Fin 512) (d : Fin 64) :
    kH (F := Ideal) kk b h (ix4 (0 : Fin 1) j (0 : Fin 1) d) = kk (ix4 b j h d) := by
  refine congrArg kk (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * d.val = d.val; omega

/-- The same with its unit axes dropped. -/
theorem k_flat (b : Fin 2) (h : Fin 8) (j : Fin 512) (d : Fin 64) :
    shapeCast S512x64 (kH (F := Ideal) kk b h) shapeCasts_S1x512x1x64_S512x64 (ix2 j d) = kk (ix4 b j h d) := by
  rw [shapeCast_apply _ _ _ (ix4 (0 : Fin 1) j (0 : Fin 1) d) (by
    rw [Shape.rowMajor_val_two, Shape.rowMajor_val_four]
    show ((0 * 512 + j.val) * 1 + 0) * 64 + d.val = j.val * 64 + d.val
    omega)]
  exact k_read kk b h j d

/-- The queries of a batch at an index: a product of matrices. -/
theorem qOf_apply (b : Fin 2) (i : Fin 256) (e : Fin 512) :
    qOf (F := Ideal) x w b (ix2 i e) = ∑ k : Fin 768, x (ix3 b i k) * w (ix2 k e) := by
  unfold qOf k0_pay2
  refine (Ideal.matmul_plain_apply none _ _ _ i e).trans ?_
  rw [constant_apply, Ideal.ofBits_zero_f32, zero_add]
  refine Finset.sum_congr rfl fun k _ => ?_
  rw [shapeCast_apply _ _ _ (ix3 (0 : Fin 1) i k) (by
    rw [Shape.rowMajor_val_two, Shape.rowMajor_val_three]
    show (0 * 256 + i.val) * 768 + k.val = i.val * 768 + k.val
    omega), shapeCast_apply _ _ _ (ix2 k e) rfl, x_read, w_read]

/-- One head of them is the formula's query. -/
theorem qH_apply (b : Fin 2) (i : Fin 256) (h : Fin 8) (d : Fin 64) : qH (F := Ideal) x w b h (ix2 i d) = query x w b i h d := by
  unfold qH
  rw [extractStridedSlice_apply _ _ _ _ (ix2 i (col h d)) fun a => by
    match a with
    | ⟨0, _⟩ => exact (Nat.zero_add _).symm
    | ⟨1, _⟩ => rfl]
  exact qOf_apply x w b i (col h d)

/-- A weight. -/
theorem weight_apply (b : Fin 2) (i : Fin 256) (h : Fin 8) (j : Fin 512) :
    k0_pay15 (qH (F := Ideal) x w b h) (kH kk b h) (ix2 i j) = Ideal.exp (score x w b i h fun d => kk (ix4 b j h d)) := by
  unfold k0_pay15
  show Ideal.exp (FloatOps.matmul _ none (qH (F := Ideal) x w b h) _ _ (ix2 i j) * scale) = _
  unfold score
  congr 2
  refine (Ideal.matmul_transposedRhs_apply none _ _ _ i j).trans ?_
  rw [constant_apply, Ideal.ofBits_zero_f32, zero_add]
  exact Finset.sum_congr rfl fun d _ => by rw [qH_apply, k_flat]

/-- A weighted sum. -/
theorem oPart_apply (b : Fin 2) (i : Fin 256) (h : Fin 8) (d : Fin 64) :
    oPart (F := Ideal) x w kk vv b h (ix2 i d)
      = ∑ j : Fin 512, Ideal.exp (score x w b i h fun d => kk (ix4 b j h d)) * vv (ix4 b j h d) := by
  unfold oPart k0_pay16
  refine (Ideal.matmul_plain_apply none _ _ _ i d).trans ?_
  rw [constant_apply, Ideal.ofBits_zero_f32, zero_add]
  exact Finset.sum_congr rfl fun j _ => by rw [weight_apply, k_flat]

/-- A sum of weights. -/
theorem lPart_apply (b : Fin 2) (i : Fin 256) (h : Fin 8) :
    lPart (F := Ideal) x w kk b h (ix2 i (0 : Fin 1)) = ∑ j : Fin 512, Ideal.exp (score x w b i h fun d => kk (ix4 b j h d)) := by
  unfold lPart k0_pay17
  rw [shapeCast_apply _ _ _ (ix1 i) (by
    rw [Shape.rowMajor_val_one, Shape.rowMajor_val_two]
    show i.val = i.val * 1 + 0
    omega)]
  refine (Ideal.multiReduction_add_single _ _ _ _ _ _).trans ?_
  refine Finset.sum_congr rfl fun j _ => ?_
  refine (congrArg (k0_pay15 (qH (F := Ideal) x w b h) (kH kk b h)) (?_ : _ = ix2 i j)).trans (weight_apply x w kk b i h j)
  funext a; apply Fin.ext
  match a with
  | ⟨0, _⟩ => rfl
  | ⟨1, _⟩ => rfl

/-! ## The packed rows -/

/-! Pieces side by side -/

/-- Of two heads side by side, the first 64 columns are the first. -/
theorem halves_left (a b : FVec Ideal S256x64 .f32) (i : Fin 256) (d : Fin 64) (e : Fin 128) (he : d.val = e.val) :
    concatenate S256x128 1 [⟨S256x64, a⟩, ⟨S256x64, b⟩] concatenates_S256x64_S256x64_S256x128_d1 (ix2 i e) = a (ix2 i d) :=
  concatenate_pair_apply_left (t := S256x128) (s₁ := S256x64) (s₂ := S256x64) (1 : Fin 2) a b _ (ix2 i e) rfl (ix2 i d) fun y => by
    match y with
    | ⟨0, _⟩ => rfl
    | ⟨1, _⟩ => exact he

/-- The other 64 are the second. -/
theorem halves_right (a b : FVec Ideal S256x64 .f32) (i : Fin 256) (d : Fin 64) (e : Fin 128) (he : d.val + 64 = e.val) :
    concatenate S256x128 1 [⟨S256x64, a⟩, ⟨S256x64, b⟩] concatenates_S256x64_S256x64_S256x128_d1 (ix2 i e) = b (ix2 i d) :=
  concatenate_pair_apply_right (t := S256x128) (s₁ := S256x64) (s₂ := S256x64) (1 : Fin 2) a b _ (ix2 i e) rfl rfl (ix2 i d) (fun y hy => by
    match y with
    | ⟨0, _⟩ => rfl
    | ⟨1, _⟩ => exact absurd rfl hy) he

/-- Of sixteen columns followed by zeros, the first sixteen. -/
theorem columns_left (a : FVec Ideal S256x16 .bf16) (b : FVec Ideal S256x112 .bf16) (i : Fin 256) (d : Fin 16) (e : Fin 128) (he : d.val = e.val) :
    concatenate S256x128 1 [⟨S256x16, a⟩, ⟨S256x112, b⟩] concatenates_S256x16_S256x112_S256x128_d1 (ix2 i e) = a (ix2 i d) :=
  concatenate_pair_apply_left (t := S256x128) (s₁ := S256x16) (s₂ := S256x112) (1 : Fin 2) a b _ (ix2 i e) rfl (ix2 i d) fun y => by
    match y with
    | ⟨0, _⟩ => rfl
    | ⟨1, _⟩ => exact he

/-- Where the weighted sum of a head lies: half a row; and its sum of weights: a column of row 8. -/
abbrev oIdx (b : Fin 2) (h : Fin 8) (i : Fin 256) (d : Fin 64) : S9x256x128.Idx :=
  ix3 (⟨4 * b.val + h.val / 2, by omega⟩ : Fin 9) i (⟨64 * (h.val % 2) + d.val, by omega⟩ : Fin 128)
abbrev lIdx (b : Fin 2) (h : Fin 8) (i : Fin 256) : S9x256x128.Idx :=
  ix3 (8 : Fin 9) i (⟨8 * b.val + h.val, by omega⟩ : Fin 128)

/-- A packed row with its unit axes dropped. -/
theorem flat_row (y : FVec Ideal S256x128 .bf16) (i : Fin 256) (e : Fin 128) :
    shapeCast S1x1x256x128 y shapeCasts_S256x128_S1x1x256x128 (ix4 (0 : Fin 1) (0 : Fin 1) i e) = y (ix2 i e) :=
  shapeCast_apply _ _ _ _ (by
    rw [Shape.rowMajor_val_two, Shape.rowMajor_val_four]
    show i.val * 128 + e.val = ((0 * 1 + 0) * 256 + i.val) * 128 + e.val
    omega)

/-- A packed row at an index. -/
theorem pack_apply (j : Fin 9) (i : Fin 256) (e : Fin 128) :
    pack (F := Ideal) x w kk vv (ix3 j i e) = packRow x w kk vv j (ix4 (0 : Fin 1) (0 : Fin 1) i e) := by
  refine congrArg (packRow (F := Ideal) x w kk vv j) (?_ : _ = ix4 (0 : Fin 1) (0 : Fin 1) i e)
  funext a
  match a with
  | ⟨0, _⟩ => rfl
  | ⟨1, _⟩ => rfl
  | ⟨2, _⟩ => rfl
  | ⟨3, _⟩ => rfl

/-- The weighted sum of a head lies where `oIdx` says. -/
theorem pack_o (b : Fin 2) (h : Fin 8) (i : Fin 256) (d : Fin 64) :
    (pack (F := Ideal) x w kk vv (oIdx b h i d) : EReal) = (oPart (F := Ideal) x w kk vv b h (ix2 i d) : EReal) := by
  have hj : 4 * b.val + h.val / 2 < 8 := by omega
  have hb : (⟨(4 * b.val + h.val / 2) / 4, by omega⟩ : Fin 2) = b := Fin.ext (by show (4 * b.val + h.val / 2) / 4 = b.val; omega)
  rw [pack_apply]
  unfold packRow
  rw [dif_pos hj]
  unfold packO k0_pay61
  rw [flat_row, truncf_apply]
  simp only [hb]
  rcases Nat.mod_two_eq_zero_or_one h.val with h0 | h1
  · have hh : (⟨2 * ((4 * b.val + h.val / 2) % 4), by omega⟩ : Fin 8) = h := Fin.ext (by show 2 * ((4 * b.val + h.val / 2) % 4) = h.val; omega)
    simp only [hh]
    exact halves_left _ _ i d _ (by show d.val = 64 * (h.val % 2) + d.val; omega)
  · have hh : (⟨2 * ((4 * b.val + h.val / 2) % 4) + 1, by omega⟩ : Fin 8) = h := Fin.ext (by show 2 * ((4 * b.val + h.val / 2) % 4) + 1 = h.val; omega)
    simp only [hh]
    exact halves_right _ _ i d _ (by show d.val + 64 = 64 * (h.val % 2) + d.val; omega)

/-- Its sum of weights lies where `lIdx` says. -/
theorem pack_l (b : Fin 2) (h : Fin 8) (i : Fin 256) :
    (pack (F := Ideal) x w kk vv (lIdx b h i) : EReal) = (lPart (F := Ideal) x w kk b h (ix2 i (0 : Fin 1)) : EReal) := by
  rw [pack_apply]
  unfold packRow
  rw [dif_neg (by decide)]
  unfold packL k0_pay69
  rw [flat_row]
  rw [columns_left _ _ i (⟨8 * b.val + h.val, by omega⟩ : Fin 16) _ rfl, truncf_apply]
  have hb : (⟨(8 * b.val + h.val) / 8, by omega⟩ : Fin 2) = b := Fin.ext (by show (8 * b.val + h.val) / 8 = b.val; omega)
  have hh : (⟨(8 * b.val + h.val) % 8, by omega⟩ : Fin 8) = h := Fin.ext (by show (8 * b.val + h.val) % 8 = h.val; omega)
  refine (concatenate_ofFn_unit_apply (t := S256x16) (s₁ := S256x1) (1 : Fin 2) (fun n : Fin 16 => lPart (F := Ideal) x w kk ⟨n.val / 8, by omega⟩ ⟨n.val % 8, by omega⟩)
    _ rfl rfl (ix2 i (⟨8 * b.val + h.val, by omega⟩ : Fin 16)) ⟨8 * b.val + h.val, by omega⟩ rfl (ix2 i (0 : Fin 1)) fun a ha => ?_).trans ?_
  · match a with
    | ⟨0, _⟩ => rfl
    | ⟨1, _⟩ => exact absurd rfl ha
  · simp only [hb, hh]

end Part

/-! ## The result from the summed rows -/

section Out
variable (t : FVec Ideal S9x256x128 .bf16) (wo : FVec Ideal S512x768 .f32)

/-- A normalized head: the quotient of what lies at the two places. -/
theorem attnH_apply (b : Fin 2) (h : Fin 8) (i : Fin 256) (d : Fin 64) :
    attnH (F := Ideal) t b h (ix2 i d) = Ideal.div (t (oIdx b h i d)) (t (lIdx b h i)) := by
  unfold attnH k0_pay77
  rw [divf_apply, extf_apply]
  congr 1
  · rw [shapeCast_apply _ _ _ (ix4 (0 : Fin 1) (0 : Fin 1) i d) (by
      rw [Shape.rowMajor_val_two, Shape.rowMajor_val_four]
      show ((0 * 1 + 0) * 256 + i.val) * 64 + d.val = i.val * 64 + d.val
      omega)]
    refine congrArg t (funext fun a => Fin.ext ?_)
    match a with
    | ⟨0, _⟩ => show 4 * b.val + h.val / 2 + 1 * 0 = 4 * b.val + h.val / 2; omega
    | ⟨1, _⟩ => show 0 + 1 * i.val = i.val; omega
    | ⟨2, _⟩ => show 64 * (h.val % 2) + 1 * d.val = 64 * (h.val % 2) + d.val; omega
  · rw [broadcastTo_apply _ _ _ (ix2 i (0 : Fin 1)) fun a => by
      match a with
      | ⟨0, _⟩ => rfl
      | ⟨1, _⟩ => rfl]
    rw [extf_apply, shapeCast_apply _ _ _ (ix4 (0 : Fin 1) (0 : Fin 1) i (0 : Fin 1)) (by
      rw [Shape.rowMajor_val_two, Shape.rowMajor_val_four]
      show ((0 * 1 + 0) * 256 + i.val) * 1 + 0 = i.val * 1 + 0
      omega)]
    refine congrArg t (funext fun a => Fin.ext ?_)
    match a with
    | ⟨0, _⟩ => rfl
    | ⟨1, _⟩ => show 0 + 1 * i.val = i.val; omega
    | ⟨2, _⟩ => show 8 * b.val + h.val + 1 * 0 = 8 * b.val + h.val; omega

/-- The heads side by side, at a column of head `h`. -/
theorem attn_apply (b : Fin 2) (i : Fin 256) (h : Fin 8) (d : Fin 64) :
    attn (F := Ideal) t b (ix2 i (col h d)) = attnH t b h (ix2 i d) := by
  unfold attn
  refine concatenate_ofFn_apply (t := S256x512) (s₁ := S256x64) (1 : Fin 2) (fun h : Fin 8 => attnH (F := Ideal) t b h) _ rfl 64 rfl (ix2 i (col h d)) h
    (by show (64 * h.val + d.val) / 64 = h.val; omega) (ix2 i d) (by show d.val = (64 * h.val + d.val) % 64; omega) fun a ha => ?_
  match a with
  | ⟨0, _⟩ => rfl
  | ⟨1, _⟩ => exact absurd rfl ha

/-- A load of `Wo`, at an index. -/
theorem wo_read (e : Fin 512) (n : Fin 768) :
    k0_pay91 (F := Ideal) ((woM : Memref sig .tc .vmem S512x768 .f32).view.readAt (Elt Ideal) woRect.toLoadRect wo) (ix2 e n) = wo (ix2 e n) := by
  unfold k0_pay91
  rw [shapeCast_apply _ _ _ (ix2 e n) rfl]
  refine congrArg wo (funext fun a => Fin.ext ?_)
  match a with
  | ⟨0, _⟩ => show 0 + 1 * e.val = e.val; omega
  | ⟨1, _⟩ => show 0 + 1 * n.val = n.val; omega

/-- The result at an index: a sum over heads and their coordinates. -/
theorem outOf_apply (b : Fin 2) (i : Fin 256) (n : Fin 768) :
    outOf (F := Ideal) t wo (ix3 b i n)
      = ∑ h : Fin 8, ∑ d : Fin 64, Ideal.div (t (oIdx b h i d)) (t (lIdx b h i)) * wo (ix2 (col h d) n) := by
  have e : outOf (F := Ideal) t wo (ix3 b i n) = outRow (F := Ideal) t wo b (ix3 (0 : Fin 1) i n) := by
    unfold outOf
    refine congrArg (outRow (F := Ideal) t wo b) (funext fun a => ?_)
    match a with
    | ⟨0, _⟩ => rfl
    | ⟨1, _⟩ => rfl
    | ⟨2, _⟩ => rfl
  rw [e]
  unfold outRow k0_pay1
  rw [shapeCast_apply _ _ _ (ix2 i n) (by
    rw [Shape.rowMajor_val_two, Shape.rowMajor_val_three]
    show i.val * 768 + n.val = (0 * 256 + i.val) * 768 + n.val
    omega)]
  refine (Ideal.matmul_plain_apply none _ _ _ i n).trans ?_
  rw [constant_apply, Ideal.ofBits_zero_f32, zero_add, sum_parts 8 64 512 rfl]
  refine Finset.sum_congr rfl fun h _ => Finset.sum_congr rfl fun d _ => ?_
  rw [wo_read, ← attnH_apply, ← attn_apply]
  rfl

end Out

/-! ## The eight devices -/

/-- The devices whose rows device `c` holds the sum of, in the order it adds them. -/
def met (c : Dev nD) : Fin 8 → Dev nD :=
  ![c, peer 0 c, peer 1 c, peer 0 (peer 1 c), peer 2 c, peer 0 (peer 2 c), peer 1 (peer 2 c), peer 0 (peer 1 (peer 2 c))]

/-- They are all eight, each once. -/
theorem met_bijective (c : Dev nD) : Function.Bijective (met c) := by
  revert c; decide

variable (m : (ℓ : Loc nD τ sig) → Buf (Elt Ideal) ℓ)

/-- After the three exchanges every device holds the sum of all eight devices' rows. -/
theorem acc_apply (c : Dev nD) (j : S9x256x128.Idx) :
    acc (F := Ideal) m 3 c j = ∑ a : Fin 8, pack (F := Ideal) (xv m a) (wv m a) (kv m a) (vv m a) j := by
  let f : Fin 8 → EReal := fun a => pack (F := Ideal) (xv m a) (wv m a) (kv m a) (vv m a) j
  show ((f c + f (peer 0 c)) + (f (peer 1 c) + f (peer 0 (peer 1 c)))) + ((f (peer 2 c) + f (peer 0 (peer 2 c))) + (f (peer 1 (peer 2 c)) + f (peer 0 (peer 1 (peer 2 c)))))
    = ∑ a, f a
  rw [← Fintype.sum_bijective (met c) (met_bijective c) (fun a => f (met c a)) f (fun _ => rfl), Fin.sum_univ_eight]
  show _ = f c + f (peer 0 c) + f (peer 1 c) + f (peer 0 (peer 1 c)) + f (peer 2 c) + f (peer 0 (peer 2 c)) + f (peer 1 (peer 2 c)) + f (peer 0 (peer 1 (peer 2 c)))
  simp only [add_assoc]

/-- The staged `x` is the argument, -/
theorem xv_eq (c : Dev nD) : xv (F := Ideal) m c = m ((c : Thread nD τ).loc main_arg0) := by
  funext i
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- and so is `Wq`, -/
theorem wv_eq (c : Dev nD) : wv (F := Ideal) m c = m ((c : Thread nD τ).loc main_arg1) := by
  funext i
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega

/-- and `Wo`, -/
theorem wov_eq (c : Dev nD) : wov (F := Ideal) m c = m ((c : Thread nD τ).loc main_arg4) := by
  funext i
  refine congrArg (m ((c : Thread nD τ).loc main_arg4)) (funext fun a => Fin.ext ?_)
  match a with
  | ⟨0, _⟩ => show 0 + 1 * (i 0).val = (i 0).val; omega
  | ⟨1, _⟩ => show 0 + 1 * (i 1).val = (i 1).val; omega

/-- and the keys, -/
theorem kv_eq (c : Dev nD) : kv (F := Ideal) m c = m ((c : Thread nD τ).loc main_arg2) := by
  funext i
  refine congrArg (m ((c : Thread nD τ).loc main_arg2)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

/-- and the values. -/
theorem vv_eq (c : Dev nD) : vv (F := Ideal) m c = m ((c : Thread nD τ).loc main_arg3) := by
  funext i
  refine congrArg (m ((c : Thread nD τ).loc main_arg3)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

end Cert.KernelRead

end
-- ==== Proof.Value.Reference.lean ====
/-
# The reference, read at an index

The reference's result is four steps of the chunked softmax, then the quotient, then the product by `Wo`.
`step*` are one step, `value` their composition (the program's own result term); each is read at an index, and
the softmax by chunks (Value/Softmax.lean) turns the quotient into that of the plain sums.
-/
module

public import proofs.«01_k».proof.Proof.Value.Formula
public import proofs.«01_k».proof.Proof.Gen.ReferenceIdeal.Run
public import Idealize.ShloMosaic.Lib.Pipeline.Value
public import Idealize.ShloMosaic.Lib.MatmulPlain
public import Idealize.ShloMosaic.Lib.IdealHost
public import Idealize.ShloMosaic.Lib.ValueIdx
public import Idealize.ShloMosaic.PureOps.Ideal.Laws

@[expose] public section

noncomputable section

namespace Cert.ReferenceRead

open Cert.ReferenceIdeal Cert.ReferenceIdeal.Gen Cert.Attention
open Idealize.ShloMosaic Idealize.ShloMosaic.ValueIdx
open scoped BigOperators

/-! ## The parts -/

/-- The queries, by head. -/
def queries (x : FVec Ideal S2x256x768 .f32) (w : FVec Ideal S768x512 .f32) : FVec Ideal S2x256x8x64 .f32 :=
  shapeCast _ (Host.dotGeneral dot_S2x256x768_S768x512_S2x256x512_2_0_01_1_n_n none x w) shapeCasts_S2x256x512_S2x256x8x64

/-- The scores against one chunk of keys. -/
def scores (q : FVec Ideal S2x256x8x64 .f32) (k : FVec Ideal S2x1024x8x64 .f32) : FVec Ideal S2x8x256x1024 .f32 :=
  mulf (Host.dotGeneral dot_S2x256x8x64_S2x1024x8x64_S2x8x256x1024_3_3_1_1_02_02 none q k)
    (broadcastInDim S2x8x256x1024 ![] bcast_S_S2x8x256x1024 (constant S_ .f32 0x3E000000#32))

/-- The running maximum after a chunk. -/
def stepM (m : FVec Ideal S2x8x256x1 .f32) (s : FVec Ideal S2x8x256x1024 .f32) : FVec Ideal S2x8x256x1 .f32 :=
  maximumf m (broadcastInDim S2x8x256x1 ![0, 1, 2] bcast_S2x8x256_S2x8x256x1_0_1_2
    (Host.reduce FloatOps.maximumf s (constant S_ .f32 0xFF800000#32) reducesTo_S2x8x256x1024_S2x8x256_d3 h_S_))

/-- The factor a chunk rescales the running sums by. -/
def stepA (m m' : FVec Ideal S2x8x256x1 .f32) : FVec Ideal S2x8x256x1 .f32 := Host.exp (subf m m')

/-- The weights of a chunk. -/
def stepP (m' : FVec Ideal S2x8x256x1 .f32) (s : FVec Ideal S2x8x256x1024 .f32) : FVec Ideal S2x8x256x1024 .f32 :=
  Host.exp (subf s (broadcastInDim S2x8x256x1024 ![0, 1, 2, 3] bcast_S2x8x256x1_S2x8x256x1024_0_1_2_3 m'))

/-- The running sum of weights after a chunk. -/
def stepL (l a : FVec Ideal S2x8x256x1 .f32) (p : FVec Ideal S2x8x256x1024 .f32) : FVec Ideal S2x8x256x1 .f32 :=
  addf (mulf l a) (broadcastInDim S2x8x256x1 ![0, 1, 2] bcast_S2x8x256_S2x8x256x1_0_1_2
    (Host.reduceAdd p (constant S_ .f32 0x00000000#32) reducesTo_S2x8x256x1024_S2x8x256_d3 h_S_))

/-- A value per head and row, along the head's coordinates. -/
def along (a : FVec Ideal S2x8x256x1 .f32) : FVec Ideal S2x256x8x64 .f32 :=
  broadcastInDim S2x256x8x64 ![0, 1, 2, 3] bcast_S2x256x8x1_S2x256x8x64_0_1_2_3
    (transpose S2x256x8x1 [0, 2, 1, 3] a transposes_S2x8x256x1_S2x256x8x1_0_2_1_3)

/-- The running weighted sum after a chunk. -/
def stepO (o : FVec Ideal S2x256x8x64 .f32) (a : FVec Ideal S2x8x256x1 .f32) (p : FVec Ideal S2x8x256x1024 .f32)
    (v : FVec Ideal S2x1024x8x64 .f32) : FVec Ideal S2x256x8x64 .f32 :=
  addf (mulf o (along a)) (transpose S2x256x8x64 [0, 3, 1, 2]
    (Host.dotGeneral dot_S2x1024x8x64_S2x8x256x1024_S2x8x64x256_1_3_3_2_02_01 none v p) transposes_S2x8x64x256_S2x256x8x64_0_3_1_2)

/-- The quotient, by `Wo`. -/
def finish (o : FVec Ideal S2x256x8x64 .f32) (l : FVec Ideal S2x8x256x1 .f32) (wo : FVec Ideal S512x768 .f32) : FVec Ideal S2x256x768 .f32 :=
  Host.dotGeneral dot_S2x256x512_S512x768_S2x256x768_2_0_01_1_n_n none
    (shapeCast _ (Host.divf o (along l)) shapeCasts_S2x256x8x64_S2x256x512) wo

/-- Chunk `n` of the keys, or of the values. -/
def chunk0 (k : FVec Ideal S2x4096x8x64 .f32) : FVec Ideal S2x1024x8x64 .f32 := extractStridedSlice S2x1024x8x64 ![0, 0, 0, 0] k slices_S2x4096x8x64_S2x1024x8x64_0_0_0_0
/-- Its rows 1024 to 2047, -/
def chunk1 (k : FVec Ideal S2x4096x8x64 .f32) : FVec Ideal S2x1024x8x64 .f32 := extractStridedSlice S2x1024x8x64 ![0, 1024, 0, 0] k slices_S2x4096x8x64_S2x1024x8x64_0_1024_0_0
/-- 2048 to 3071, -/
def chunk2 (k : FVec Ideal S2x4096x8x64 .f32) : FVec Ideal S2x1024x8x64 .f32 := extractStridedSlice S2x1024x8x64 ![0, 2048, 0, 0] k slices_S2x4096x8x64_S2x1024x8x64_0_2048_0_0
/-- and 3072 to 4095. -/
def chunk3 (k : FVec Ideal S2x4096x8x64 .f32) : FVec Ideal S2x1024x8x64 .f32 := extractStridedSlice S2x1024x8x64 ![0, 3072, 0, 0] k slices_S2x4096x8x64_S2x1024x8x64_0_3072_0_0

/-- The running values: maximum, sum of weights, weighted sum. -/
structure State where
  m : FVec Ideal S2x8x256x1 .f32
  l : FVec Ideal S2x8x256x1 .f32
  o : FVec Ideal S2x256x8x64 .f32

/-- Before the first chunk: minus infinity, zero, zero. -/
def start : State where
  m := broadcastInDim S2x8x256x1 ![] bcast_S_S2x8x256x1 (constant S_ .f32 0xFF800000#32)
  l := broadcastInDim S2x8x256x1 ![] bcast_S_S2x8x256x1 (constant S_ .f32 0x00000000#32)
  o := broadcastInDim S2x256x8x64 ![] bcast_S_S2x256x8x64 (constant S_ .f32 0x00000000#32)

/-- After one more chunk of scores `s` and values `v`. -/
def step (z : State) (s : FVec Ideal S2x8x256x1024 .f32) (v : FVec Ideal S2x1024x8x64 .f32) : State where
  m := stepM z.m s
  l := stepL z.l (stepA z.m (stepM z.m s)) (stepP (stepM z.m s) s)
  o := stepO z.o (stepA z.m (stepM z.m s)) (stepP (stepM z.m s) s) v

/-- After the four chunks. -/
def last (x : FVec Ideal S2x256x768 .f32) (w : FVec Ideal S768x512 .f32) (k v : FVec Ideal S2x4096x8x64 .f32) : State :=
  step (step (step (step start (scores (queries x w) (chunk0 k)) (chunk0 v)) (scores (queries x w) (chunk1 k)) (chunk1 v))
    (scores (queries x w) (chunk2 k)) (chunk2 v)) (scores (queries x w) (chunk3 k)) (chunk3 v)

/-- The reference's result. -/
def value (x : FVec Ideal S2x256x768 .f32) (w : FVec Ideal S768x512 .f32) (k v : FVec Ideal S2x4096x8x64 .f32) (wo : FVec Ideal S512x768 .f32) :
    FVec Ideal S2x256x768 .f32 :=
  finish (last x w k v).o (last x w k v).l wo

set_option maxRecDepth 16384 in
/-- It is the program's result term. -/
theorem res_eq (m : (ℓ : Loc nD τ sig) → Buf (Elt Ideal) ℓ) (c : Dev nD) :
    Value.res_out0 m c = value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v101
  rfl

/-! ## The parts at an index -/

/-- A contraction over one axis, at operand indices given by coordinate. -/
theorem dotGeneral_one {sl sr so : Shape} (D : DotDims sl sr so) (l : FVec Ideal sl .f32) (r : FVec Ideal sr .f32) (j : so.Idx)
    (n : ℕ) (hr : D.contr.rank = 1) (hs : D.contr.size ⟨0, by omega⟩ = n) (L : Fin n → sl.Idx) (R : Fin n → sr.Idx)
    (hL : ∀ k, D.lhsIdx j ((contrEquiv1 D n hr hs).symm k) = L k) (hR : ∀ k, D.rhsIdx j ((contrEquiv1 D n hr hs).symm k) = R k) :
    Host.dotGeneral D none l r j = ∑ k : Fin n, l (L k) * r (R k) := by
  show FloatOps.dotGeneral D none .single l r j = _
  rw [Ideal.dotGeneral_apply, ← Equiv.sum_comp (contrEquiv1 D n hr hs).symm]
  exact Finset.sum_congr rfl fun k _ => by rw [hL, hR]

/-- A query of the program is the formula's. -/
theorem queries_apply (x : FVec Ideal S2x256x768 .f32) (w : FVec Ideal S768x512 .f32) (b : Fin 2) (i : Fin 256) (h : Fin 8) (d : Fin 64) :
    queries x w (ix4 b i h d) = query x w b i h d := by
  unfold queries
  rw [shapeCast_apply _ _ _ (ix3 b i (col h d)) (by
    rw [Shape.rowMajor_val_three, Shape.rowMajor_val_four]
    show (b.val * 256 + i.val) * 512 + (64 * h.val + d.val) = ((b.val * 256 + i.val) * 8 + h.val) * 64 + d.val
    omega)]
  refine dotGeneral_one _ _ _ _ 768 rfl rfl (fun k => ix3 b i k) (fun k => ix2 k (col h d)) (fun k => ?_) (fun k => ?_)
  · have hk := contrEquiv1_symm_val dot_S2x256x768_S768x512_S2x256x512_2_0_01_1_n_n 768 rfl rfl k
    funext a; apply Fin.ext
    match a with
    | ⟨0, _⟩ => rfl
    | ⟨1, _⟩ => rfl
    | ⟨2, _⟩ => exact hk
  · have hk := contrEquiv1_symm_val dot_S2x256x768_S768x512_S2x256x512_2_0_01_1_n_n 768 rfl rfl k
    funext a; apply Fin.ext
    match a with
    | ⟨0, _⟩ => exact hk
    | ⟨1, _⟩ => rfl

/-- A score of a chunk at an index. -/
theorem scores_apply (q : FVec Ideal S2x256x8x64 .f32) (k : FVec Ideal S2x1024x8x64 .f32) (b : Fin 2) (h : Fin 8) (i : Fin 256) (j : Fin 1024) :
    scores q k (ix4 b h i j) = (∑ d : Fin 64, q (ix4 b i h d) * k (ix4 b j h d)) * scale := by
  unfold scores
  rw [mulf_apply]
  congr 1
  refine dotGeneral_one _ _ _ _ 64 rfl rfl (fun d => ix4 b i h d) (fun d => ix4 b j h d) (fun d => ?_) (fun d => ?_)
  all_goals
    have hk := contrEquiv1_symm_val dot_S2x256x8x64_S2x1024x8x64_S2x8x256x1024_3_3_1_1_02_02 64 rfl rfl d
    funext a; apply Fin.ext
    match a with
    | ⟨0, _⟩ => rfl
    | ⟨1, _⟩ => rfl
    | ⟨2, _⟩ => rfl
    | ⟨3, _⟩ => exact hk

/-- The last axis is the one reduced. -/
theorem reduces_scores : S2x8x256x1024.Reduces [3] S2x8x256 := by decide

/-- The index a reduction reads. -/
theorem lift_scores (b : Fin 2) (h : Fin 8) (i : Fin 256) (j : Fin 1024) : reduces_scores.lift (ix3 b h i) j = ix4 b h i j := by
  funext a; apply Fin.ext
  match a with
  | ⟨0, _⟩ => rfl
  | ⟨1, _⟩ => rfl
  | ⟨2, _⟩ => rfl
  | ⟨3, _⟩ => rfl

/-- A value per head and row, with a unit axis after. -/
theorem unit_apply (y : FVec Ideal S2x8x256 .f32) (b : Fin 2) (h : Fin 8) (i : Fin 256) :
    broadcastInDim S2x8x256x1 ![0, 1, 2] bcast_S2x8x256_S2x8x256x1_0_1_2 y (ix4 b h i (0 : Fin 1)) = y (ix3 b h i) :=
  broadcastInDim_apply _ _ y _ _ fun a => by
    match a with
    | ⟨0, _⟩ => rfl
    | ⟨1, _⟩ => rfl
    | ⟨2, _⟩ => rfl

/-- The maximum starts from minus infinity. -/
theorem neg_inf : Ideal.ofBits .f32 0xFF800000#32 = ⊥ := by simp [Ideal.ofBits, Ideal.ieee]

/-- The next maximum at an index. -/
theorem stepM_apply (m : FVec Ideal S2x8x256x1 .f32) (s : FVec Ideal S2x8x256x1024 .f32) (b : Fin 2) (h : Fin 8) (i : Fin 256) :
    stepM m s (ix4 b h i (0 : Fin 1)) = max (m (ix4 b h i (0 : Fin 1))) ((Finset.univ : Finset (Fin 1024)).fold max ⊥ fun j => s (ix4 b h i j)) := by
  unfold stepM
  rw [maximumf_apply, unit_apply, Host.reduce_eq_fold_single _ _ _ _ reduces_scores]
  congr 1
  rw [constant_apply, neg_inf]
  exact congrArg (Finset.fold max ⊥ · Finset.univ) (funext fun j => congrArg s (lift_scores b h i j))

/-- The rescaling factor at an index. -/
theorem stepA_apply (m m' : FVec Ideal S2x8x256x1 .f32) (b : Fin 2) (h : Fin 8) (i : Fin 256) :
    stepA m m' (ix4 b h i (0 : Fin 1)) = Ideal.exp (m (ix4 b h i (0 : Fin 1)) - m' (ix4 b h i (0 : Fin 1))) := rfl

/-- A weight of a chunk at an index. -/
theorem stepP_apply (m' : FVec Ideal S2x8x256x1 .f32) (s : FVec Ideal S2x8x256x1024 .f32) (b : Fin 2) (h : Fin 8) (i : Fin 256) (j : Fin 1024) :
    stepP m' s (ix4 b h i j) = Ideal.exp (s (ix4 b h i j) - m' (ix4 b h i (0 : Fin 1))) := by
  show Ideal.exp (s (ix4 b h i j) - broadcastInDim S2x8x256x1024 ![0, 1, 2, 3] bcast_S2x8x256x1_S2x8x256x1024_0_1_2_3 m' (ix4 b h i j)) = _
  rw [broadcastInDim_apply _ _ m' (ix4 b h i j) (ix4 b h i (0 : Fin 1)) fun a => by
    match a with
    | ⟨0, _⟩ => rfl
    | ⟨1, _⟩ => rfl
    | ⟨2, _⟩ => rfl
    | ⟨3, _⟩ => rfl]

/-- The next sum of weights at an index. -/
theorem stepL_apply (l a : FVec Ideal S2x8x256x1 .f32) (p : FVec Ideal S2x8x256x1024 .f32) (b : Fin 2) (h : Fin 8) (i : Fin 256) :
    stepL l a p (ix4 b h i (0 : Fin 1)) = l (ix4 b h i (0 : Fin 1)) * a (ix4 b h i (0 : Fin 1)) + ∑ j : Fin 1024, p (ix4 b h i j) := by
  unfold stepL
  rw [addf_apply, mulf_apply, unit_apply, hostReduceAdd_apply, Ideal.hostReduceAdd_single _ reduces_scores, constant_apply,
    Ideal.ofBits_zero_f32, zero_add]
  exact congrArg (_ + ·) (Finset.sum_congr rfl fun j _ => congrArg p (lift_scores b h i j))

/-- A value per head and row, along the coordinates, at an index. -/
theorem along_apply (a : FVec Ideal S2x8x256x1 .f32) (b : Fin 2) (i : Fin 256) (h : Fin 8) (d : Fin 64) :
    along a (ix4 b i h d) = a (ix4 b h i (0 : Fin 1)) := by
  unfold along
  rw [broadcastInDim_apply _ _ _ (ix4 b i h d) (ix4 b i h (0 : Fin 1)) fun a => by
    match a with
    | ⟨0, _⟩ => rfl
    | ⟨1, _⟩ => rfl
    | ⟨2, _⟩ => rfl
    | ⟨3, _⟩ => rfl]
  exact transpose_apply _ a _ _ _ fun a => by
    match a with
    | ⟨0, _⟩ => rfl
    | ⟨1, _⟩ => rfl
    | ⟨2, _⟩ => rfl
    | ⟨3, _⟩ => rfl

/-- The next weighted sum at an index. -/
theorem stepO_apply (o : FVec Ideal S2x256x8x64 .f32) (a : FVec Ideal S2x8x256x1 .f32) (p : FVec Ideal S2x8x256x1024 .f32)
    (v : FVec Ideal S2x1024x8x64 .f32) (b : Fin 2) (i : Fin 256) (h : Fin 8) (d : Fin 64) :
    stepO o a p v (ix4 b i h d)
      = o (ix4 b i h d) * a (ix4 b h i (0 : Fin 1)) + ∑ j : Fin 1024, v (ix4 b j h d) * p (ix4 b h i j) := by
  unfold stepO
  rw [addf_apply, mulf_apply, along_apply]
  congr 1
  rw [transpose_apply _ _ _ (ix4 b i h d) (ix4 b h d i) fun a => by
    match a with
    | ⟨0, _⟩ => rfl
    | ⟨1, _⟩ => rfl
    | ⟨2, _⟩ => rfl
    | ⟨3, _⟩ => rfl]
  refine dotGeneral_one _ _ _ _ 1024 rfl rfl (fun j => ix4 b j h d) (fun j => ix4 b h i j) (fun j => ?_) (fun j => ?_)
  · have hk := contrEquiv1_symm_val dot_S2x1024x8x64_S2x8x256x1024_S2x8x64x256_1_3_3_2_02_01 1024 rfl rfl j
    funext a; apply Fin.ext
    match a with
    | ⟨0, _⟩ => rfl
    | ⟨1, _⟩ => exact hk
    | ⟨2, _⟩ => rfl
    | ⟨3, _⟩ => rfl
  · have hk := contrEquiv1_symm_val dot_S2x1024x8x64_S2x8x256x1024_S2x8x64x256_1_3_3_2_02_01 1024 rfl rfl j
    funext a; apply Fin.ext
    match a with
    | ⟨0, _⟩ => rfl
    | ⟨1, _⟩ => rfl
    | ⟨2, _⟩ => rfl
    | ⟨3, _⟩ => exact hk

/-- The result at an index: a sum over heads and their coordinates. -/
theorem finish_apply (o : FVec Ideal S2x256x8x64 .f32) (l : FVec Ideal S2x8x256x1 .f32) (wo : FVec Ideal S512x768 .f32)
    (b : Fin 2) (i : Fin 256) (n : Fin 768) :
    finish o l wo (ix3 b i n)
      = ∑ h : Fin 8, ∑ d : Fin 64, Ideal.div (o (ix4 b i h d)) (l (ix4 b h i (0 : Fin 1))) * wo (ix2 (col h d) n) := by
  unfold finish
  rw [dotGeneral_one _ _ _ _ 512 rfl rfl (fun k => ix3 b i k) (fun k => ix2 k n) (fun k => by
      have hk := contrEquiv1_symm_val dot_S2x256x512_S512x768_S2x256x768_2_0_01_1_n_n 512 rfl rfl k
      funext a; apply Fin.ext
      match a with
      | ⟨0, _⟩ => rfl
      | ⟨1, _⟩ => rfl
      | ⟨2, _⟩ => exact hk) (fun k => by
      have hk := contrEquiv1_symm_val dot_S2x256x512_S512x768_S2x256x768_2_0_01_1_n_n 512 rfl rfl k
      funext a; apply Fin.ext
      match a with
      | ⟨0, _⟩ => exact hk
      | ⟨1, _⟩ => rfl), sum_parts 8 64 512 rfl]
  refine Finset.sum_congr rfl fun h _ => Finset.sum_congr rfl fun d _ => congrArg (· * wo (ix2 (col h d) n)) ?_
  rw [shapeCast_apply _ _ _ (ix4 b i h d) (by
    rw [Shape.rowMajor_val_three, Shape.rowMajor_val_four]
    show ((b.val * 256 + i.val) * 8 + h.val) * 64 + d.val = (b.val * 256 + i.val) * 512 + (64 * h.val + d.val)
    omega)]
  rw [hostDivf_apply, along_apply]

/-! ## The softmax -/

/-- One step of the program is one step of the softmax by chunks, on each row, head and coordinate. -/
theorem run_step (z : State) (s : FVec Ideal S2x8x256x1024 .f32) (v : FVec Ideal S2x1024x8x64 .f32) (b : Fin 2) (i : Fin 256) (h : Fin 8) (d : Fin 64)
    (r : Fin 1024 → ℝ) (hs : ∀ j, s (ix4 b h i j) = (r j : EReal)) {L : ℝ} {O : EReal}
    (hz : Softmax.Run (z.m (ix4 b h i (0 : Fin 1))) (z.l (ix4 b h i (0 : Fin 1))) (z.o (ix4 b i h d)) L O) :
    Softmax.Run ((step z s v).m (ix4 b h i (0 : Fin 1))) ((step z s v).l (ix4 b h i (0 : Fin 1))) ((step z s v).o (ix4 b i h d))
      (L + ∑ j, Real.exp (r j)) (O + ∑ j, ((Real.exp (r j) : ℝ) : EReal) * v (ix4 b j h d)) := by
  obtain ⟨t, ht⟩ := Softmax.fold_max_real (fun j : Fin 1024 => s (ix4 b h i j)) r hs
  have hm : ∃ x' : ℝ, stepM z.m s (ix4 b h i (0 : Fin 1)) = (x' : EReal) := by
    rw [stepM_apply, ht]
    rcases hz with ⟨hm, _⟩ | ⟨x, hm, _⟩
    · exact ⟨t, by rw [hm]; exact max_eq_right bot_le⟩
    · exact ⟨max x t, by rw [hm]; exact (EReal.coe_strictMono.monotone.map_max).symm⟩
  obtain ⟨x', hx'⟩ := hm
  have key := Softmax.run_step hz (fun j => s (ix4 b h i j)) r hs (fun j => v (ix4 b j h d)) _ x' hx'
  show Softmax.Run (stepM z.m s _) (stepL z.l (stepA z.m (stepM z.m s)) (stepP (stepM z.m s) s) _) (stepO z.o (stepA z.m (stepM z.m s)) (stepP (stepM z.m s) s) v _) _ _
  rw [stepL_apply, stepO_apply, stepA_apply]
  simp only [stepP_apply]
  exact key

/-- The first values are those the softmax by chunks starts from. -/
theorem run_start (b : Fin 2) (i : Fin 256) (h : Fin 8) (d : Fin 64) :
    Softmax.Run (start.m (ix4 b h i (0 : Fin 1))) (start.l (ix4 b h i (0 : Fin 1))) (start.o (ix4 b i h d)) 0 0 := by
  have hm : start.m (ix4 b h i (0 : Fin 1)) = ⊥ := neg_inf
  have hl : start.l (ix4 b h i (0 : Fin 1)) = 0 := Ideal.ofBits_zero_f32
  have ho : start.o (ix4 b i h d) = 0 := Ideal.ofBits_zero_f32
  rw [hm, hl, ho]
  exact Softmax.run_start

/-- Row `1024 n + j` of the keys. -/
abbrev row (n : Fin 4) (j : Fin 1024) : Fin 4096 := ⟨1024 * n.val + j.val, by omega⟩

/-- Chunk 0 at an index, -/
theorem chunk0_apply (k : FVec Ideal S2x4096x8x64 .f32) (b : Fin 2) (j : Fin 1024) (h : Fin 8) (d : Fin 64) : chunk0 k (ix4 b j h d) = k (ix4 b (row 0 j) h d) :=
  extractStridedSlice_apply _ k _ _ _ fun a => by
    match a with
    | ⟨0, _⟩ => exact (Nat.zero_add _).symm
    | ⟨1, _⟩ => rfl
    | ⟨2, _⟩ => exact (Nat.zero_add _).symm
    | ⟨3, _⟩ => exact (Nat.zero_add _).symm
/-- chunk 1, -/
theorem chunk1_apply (k : FVec Ideal S2x4096x8x64 .f32) (b : Fin 2) (j : Fin 1024) (h : Fin 8) (d : Fin 64) : chunk1 k (ix4 b j h d) = k (ix4 b (row 1 j) h d) :=
  extractStridedSlice_apply _ k _ _ _ fun a => by
    match a with
    | ⟨0, _⟩ => exact (Nat.zero_add _).symm
    | ⟨1, _⟩ => rfl
    | ⟨2, _⟩ => exact (Nat.zero_add _).symm
    | ⟨3, _⟩ => exact (Nat.zero_add _).symm
/-- chunk 2, -/
theorem chunk2_apply (k : FVec Ideal S2x4096x8x64 .f32) (b : Fin 2) (j : Fin 1024) (h : Fin 8) (d : Fin 64) : chunk2 k (ix4 b j h d) = k (ix4 b (row 2 j) h d) :=
  extractStridedSlice_apply _ k _ _ _ fun a => by
    match a with
    | ⟨0, _⟩ => exact (Nat.zero_add _).symm
    | ⟨1, _⟩ => rfl
    | ⟨2, _⟩ => exact (Nat.zero_add _).symm
    | ⟨3, _⟩ => exact (Nat.zero_add _).symm
/-- and chunk 3. -/
theorem chunk3_apply (k : FVec Ideal S2x4096x8x64 .f32) (b : Fin 2) (j : Fin 1024) (h : Fin 8) (d : Fin 64) : chunk3 k (ix4 b j h d) = k (ix4 b (row 3 j) h d) :=
  extractStridedSlice_apply _ k _ _ _ fun a => by
    match a with
    | ⟨0, _⟩ => exact (Nat.zero_add _).symm
    | ⟨1, _⟩ => rfl
    | ⟨2, _⟩ => exact (Nat.zero_add _).symm
    | ⟨3, _⟩ => exact (Nat.zero_add _).symm

/-- A score of the program is the formula's. -/
theorem score_apply (x : FVec Ideal S2x256x768 .f32) (w : FVec Ideal S768x512 .f32) (kn : FVec Ideal S2x1024x8x64 .f32)
    (k : FVec Ideal S2x4096x8x64 .f32) (n : Fin 4) (hk : ∀ b j h d, kn (ix4 b j h d) = k (ix4 b (row n j) h d))
    (b : Fin 2) (h : Fin 8) (i : Fin 256) (j : Fin 1024) :
    scores (queries x w) kn (ix4 b h i j) = score x w b i h fun d => k (ix4 b (row n j) h d) := by
  rw [scores_apply]
  unfold score
  exact congrArg (· * scale) (Finset.sum_congr rfl fun d _ => by rw [queries_apply, hk])

/-- The reference's result where every score is a real `r`: at each index the sum over heads and coordinates of the quotient
    of the plain sums, by `Wo`. -/
theorem value_apply (x : FVec Ideal S2x256x768 .f32) (w : FVec Ideal S768x512 .f32) (k v : FVec Ideal S2x4096x8x64 .f32) (wo : FVec Ideal S512x768 .f32)
    (r : Fin 2 → Fin 256 → Fin 8 → Fin 4096 → ℝ) (hr : ∀ b i h j, score x w b i h (fun d => k (ix4 b j h d)) = (r b i h j : EReal))
    (b : Fin 2) (i : Fin 256) (n : Fin 768) :
    value x w k v wo (ix3 b i n)
      = ∑ h : Fin 8, ∑ d : Fin 64, Ideal.div (∑ j : Fin 4096, ((Real.exp (r b i h j) : ℝ) : EReal) * v (ix4 b j h d))
          (∑ j : Fin 4096, ((Real.exp (r b i h j) : ℝ) : EReal)) * wo (ix2 (col h d) n) := by
  unfold value
  rw [finish_apply]
  refine Finset.sum_congr rfl fun h _ => Finset.sum_congr rfl fun d _ => congrArg (· * wo (ix2 (col h d) n)) ?_
  have h0 := run_step start (scores (queries x w) (chunk0 k)) (chunk0 v) b i h d (fun j => r b i h (row 0 j))
    (fun j => (score_apply x w _ k 0 (chunk0_apply k) b h i j).trans (hr b i h _)) (run_start b i h d)
  have h1 := run_step _ (scores (queries x w) (chunk1 k)) (chunk1 v) b i h d (fun j => r b i h (row 1 j))
    (fun j => (score_apply x w _ k 1 (chunk1_apply k) b h i j).trans (hr b i h _)) h0
  have h2 := run_step _ (scores (queries x w) (chunk2 k)) (chunk2 v) b i h d (fun j => r b i h (row 2 j))
    (fun j => (score_apply x w _ k 2 (chunk2_apply k) b h i j).trans (hr b i h _)) h1
  have h3 := run_step _ (scores (queries x w) (chunk3 k)) (chunk3 v) b i h d (fun j => r b i h (row 3 j))
    (fun j => (score_apply x w _ k 3 (chunk3_apply k) b h i j).trans (hr b i h _)) h2
  have hL : 0 + ∑ j, Real.exp (r b i h (row 0 j)) + ∑ j, Real.exp (r b i h (row 1 j)) + ∑ j, Real.exp (r b i h (row 2 j))
      + ∑ j, Real.exp (r b i h (row 3 j)) = ∑ j, Real.exp (r b i h j) := by
    rw [sum_parts 4 1024 4096 rfl, Fin.sum_univ_four, zero_add]
  have hO : 0 + ∑ j, ((Real.exp (r b i h (row 0 j)) : ℝ) : EReal) * chunk0 v (ix4 b j h d) + ∑ j, ((Real.exp (r b i h (row 1 j)) : ℝ) : EReal) * chunk1 v (ix4 b j h d)
      + ∑ j, ((Real.exp (r b i h (row 2 j)) : ℝ) : EReal) * chunk2 v (ix4 b j h d) + ∑ j, ((Real.exp (r b i h (row 3 j)) : ℝ) : EReal) * chunk3 v (ix4 b j h d)
      = ∑ j, ((Real.exp (r b i h j) : ℝ) : EReal) * v (ix4 b j h d) := by
    simp only [chunk0_apply, chunk1_apply, chunk2_apply, chunk3_apply]
    rw [sum_parts 4 1024 4096 rfl, Fin.sum_univ_four, zero_add]
  rw [hL, hO] at h3
  rw [← Softmax.coe_sum]
  exact Softmax.run_div h3 (Finset.sum_pos (fun j _ => Real.exp_pos _) Finset.univ_nonempty)

end Cert.ReferenceRead

end
-- ==== Proof.Value.Equal.lean ====
/-
# The two results are equal

Both programs, read at an index, are one sum over heads and their coordinates: the kernel's quotient is of sums
over eight devices' 512 keys each, the reference's of sums over the 4096 keys, and device `c` holds rows `512 c`
to `512 c + 511` of the keys and the values.
-/
module

public import proofs.«01_k».proof.Proof.Value.Kernel
public import proofs.«01_k».proof.Proof.Value.Reference
public import Idealize.ShloMosaic.Lib.Layout
public import Idealize.ShloMosaic.Lib.LayoutAt

@[expose] public section

noncomputable section

namespace Cert.ValueEqual

open Cert.KernelIdeal Cert.KernelIdealProof Cert.KernelRead Cert.Attention
open Idealize.ShloMosaic Idealize.ShloMosaic.ValueIdx Idealize.ShloMosaic.TcCoe
open scoped BigOperators

/-- The constant the precondition compares with is plus infinity. -/
theorem pos_inf : Ideal.ofBits .f32 0x7F800000#32 = ⊤ := by simp [Ideal.ofBits, Ideal.ieee]

/-- A value whose absolute value is below infinity is a real. -/
theorem real_of_abs_lt (y : EReal) (h : Ideal.cmp .olt (max y (-y)) (Ideal.ofBits .f32 0x7F800000#32) = 1#1) : ∃ r : ℝ, y = (r : EReal) := by
  rw [pos_inf] at h
  induction y using EReal.rec with
  | bot => simp [Ideal.cmp] at h
  | top => simp [Ideal.cmp] at h
  | coe r => exact ⟨r, rfl⟩

/-- Row `512 a + j` of the keys. -/
abbrev row (a : Fin 8) (j : Fin 512) : Fin 4096 := ⟨512 * a.val + j.val, by omega⟩

/-- The device's block of the keys, or of the values, at an index. -/
theorem block_row (a : Fin 8) (v : FVec Ideal ⟨4, ![2, 4096, 8, 64]⟩ .f32) (b : Fin 2) (j : Fin 512) (h : Fin 8) (d : Fin 64)
    (ht : Layout.Tiles (⟨4, ![2, 512, 8, 64]⟩ : Shape) ⟨4, ![2, 4096, 8, 64]⟩ 1 8) :
    Layout.block ⟨4, ![2, 512, 8, 64]⟩ ⟨4, ![2, 4096, 8, 64]⟩ 1 8 a v ht (ix4 b j h d) = v (ix4 b (row a j) h d) := by
  rw [Layout.block_apply]
  refine congrArg v (funext fun y => Fin.ext ?_)
  match y with
  | ⟨0, _⟩ => rfl
  | ⟨1, _⟩ => show a.val * 512 + j.val = 512 * a.val + j.val; omega
  | ⟨2, _⟩ => rfl
  | ⟨3, _⟩ => rfl

variable (m : (ℓ : Loc nD τ sig) → Buf (Elt Ideal) ℓ)
  (x : FVec Ideal S2x256x768 .f32) (w : FVec Ideal S768x512 .f32) (k v : FVec Ideal ⟨4, ![2, 4096, 8, 64]⟩ .f32) (wo : FVec Ideal S512x768 .f32)

/-- From finite queries' and keys' data, the kernel's result on every device is the reference's. -/
theorem outAt_eq (ht : Layout.Tiles (⟨4, ![2, 512, 8, 64]⟩ : Shape) ⟨4, ![2, 4096, 8, 64]⟩ 1 8)
    (h0 : ∀ c : Dev nD, m ((c : Thread nD τ).loc main_arg0) = x) (h1 : ∀ c : Dev nD, m ((c : Thread nD τ).loc main_arg1) = w)
    (h2 : ∀ c : Dev nD, m ((c : Thread nD τ).loc main_arg2) = Layout.block ⟨4, ![2, 512, 8, 64]⟩ ⟨4, ![2, 4096, 8, 64]⟩ 1 8 c k ht)
    (h3 : ∀ c : Dev nD, m ((c : Thread nD τ).loc main_arg3) = Layout.block ⟨4, ![2, 512, 8, 64]⟩ ⟨4, ![2, 4096, 8, 64]⟩ 1 8 c v ht)
    (h4 : ∀ c : Dev nD, m ((c : Thread nD τ).loc main_arg4) = wo)
    (hx : ∀ j, ∃ r : ℝ, x j = (r : EReal)) (hw : ∀ j, ∃ r : ℝ, w j = (r : EReal))
    (hk : ∀ (c : Dev nD) j, ∃ r : ℝ, Layout.block ⟨4, ![2, 512, 8, 64]⟩ ⟨4, ![2, 4096, 8, 64]⟩ 1 8 c k ht j = (r : EReal)) (c : Dev nD) :
    outAt (F := Ideal) m c = ReferenceRead.value x w k v wo := by
  have hkey : ∀ (b : Fin 2) (j : Fin 4096) (h : Fin 8) (d : Fin 64), ∃ r : ℝ, k (ix4 b j h d) = (r : EReal) := fun b j h d => by
    have e := hk (⟨j.val / 512, by omega⟩ : Fin 8) (ix4 b (⟨j.val % 512, by omega⟩ : Fin 512) h d)
    rw [block_row] at e
    have ej : row ⟨j.val / 512, by omega⟩ ⟨j.val % 512, by omega⟩ = j := Fin.ext (by show 512 * (j.val / 512) + j.val % 512 = j.val; omega)
    rwa [ej] at e
  have hs : ∀ (b : Fin 2) (i : Fin 256) (h : Fin 8) (j : Fin 4096), ∃ r : ℝ, score x w b i h (fun d => k (ix4 b j h d)) = (r : EReal) :=
    fun b i h j => score_real x w hx hw b i h _ fun d => hkey b j h d
  choose r hr using hs
  have hO : ∀ (b : Fin 2) (h : Fin 8) (i : Fin 256) (d : Fin 64),
      (acc (F := Ideal) m 3 c (oIdx b h i d) : EReal) = ∑ j : Fin 4096, ((Real.exp (r b i h j) : ℝ) : EReal) * v (ix4 b j h d) := fun b h i d => by
    rw [acc_apply, sum_parts 8 512 4096 rfl]
    refine Finset.sum_congr rfl fun a _ => ?_
    rw [xv_eq, wv_eq, kv_eq, vv_eq, h0, h1, h2, h3, pack_o, oPart_apply]
    refine Finset.sum_congr rfl fun j _ => ?_
    simp only [block_row]
    rw [hr]
    rfl
  have hL : ∀ (b : Fin 2) (h : Fin 8) (i : Fin 256),
      (acc (F := Ideal) m 3 c (lIdx b h i) : EReal) = ∑ j : Fin 4096, ((Real.exp (r b i h j) : ℝ) : EReal) := fun b h i => by
    rw [acc_apply, sum_parts 8 512 4096 rfl]
    refine Finset.sum_congr rfl fun a _ => ?_
    rw [xv_eq, wv_eq, kv_eq, vv_eq, h0, h1, h2, h3, pack_l, lPart_apply]
    refine Finset.sum_congr rfl fun j _ => ?_
    simp only [block_row]
    rw [hr]
    rfl
  have key : ∀ (b : Fin 2) (i : Fin 256) (n : Fin 768),
      (outOf (F := Ideal) (acc m 3 c) wo (ix3 b i n) : EReal) = ReferenceRead.value x w k v wo (ix3 b i n) := fun b i n => by
    rw [outOf_apply, ReferenceRead.value_apply x w k v wo r hr]
    simp only [hO, hL]
  unfold outAt
  rw [wov_eq, h4]
  funext i
  have hi : i = ix3 (i (0 : Fin 3)) (i (1 : Fin 3)) (i (2 : Fin 3)) := eq_ix3 i
  rw [hi]
  exact key (i (0 : Fin 3)) (i (1 : Fin 3)) (i (2 : Fin 3))

end Cert.ValueEqual

end
-- ==== Proof.lean ====
/-
# The proof of the claims

`Kernel` and `KernelIdeal` are one program at two readings of floats, and their runs are the same proof
(Proof/Kernel, Proof/KernelIdeal). The frames are those runs with the values dropped; the equality of the results
is that of the values the two runs end at (Proof/Value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Equal
public import Idealize.ShloMosaic.Adequacy
public import Idealize.ShloMosaic.Init

@[expose] public section

noncomputable section

namespace Cert.Proof

open Idealize.ShloMosaic Idealize.SL.Sem

/-- The kernel as printed terminates, keeps its arguments and ends with every counter at zero. -/
theorem frame_kernel : Cert.quiescent_Kernel := fun m ρ _ =>
  (θ_run Cert.Kernel.defs _ _).mono (fun _ h => ⟨Cert.KernelProof.args_kept m ρ h.1, h.2⟩) (Cert.KernelProof.run_main (F := Bits) m ρ)

/-- And so does it read over the extended reals. -/
theorem frame_kernel_ideal : Cert.quiescent_KernelIdeal := fun m ρ _ =>
  (θ_run Cert.KernelIdeal.defs _ _).mono (fun _ h => ⟨Cert.KernelIdealProof.args_kept m ρ h.1, h.2⟩) (Cert.KernelIdealProof.run_main (F := Ideal) m ρ)

/-- The reference terminates and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shape relations the precondition takes, of one device's arguments, -/
instance facts_pre_kernel : Cert.Pre_scores_finite_KernelIdeal.Facts where
  bcast_S_S2x256x768 := by decide
  bcast_S_S768x512 := by decide
  bcast_S_S2x512x8x64 := by decide

/-- and of the whole arguments. -/
instance facts_pre_reference : Cert.Pre_scores_finite_ReferenceIdeal.Facts where
  bcast_S_S2x256x768 := by decide
  bcast_S_S768x512 := by decide
  bcast_S_S2x4096x8x64 := by decide

/-- Where every device's `x`, `Wq` and keys are finite, every device ends with the reference's result. -/
theorem algebraic : Cert.algebraic_KernelIdeal_ReferenceIdeal_pre_scores_finite_KernelIdeal := fun m g m' g' hpre hm => by
  have hx := fun j => ValueEqual.real_of_abs_lt _ (congrFun (hpre 0).1 j)
  have hw := fun j => ValueEqual.real_of_abs_lt _ (congrFun (hpre 0).2.1 j)
  have hk := fun c j => ValueEqual.real_of_abs_lt _ (congrFun (hpre c).2.2 j)
  rw [(hm 0).1] at hx
  rw [(hm 0).2.1] at hw
  have hk' := fun c j => (congrFun (hm c).2.2.1 j).symm ▸ hk c j
  refine ⟨ReferenceRead.value _ _ _ _ _, (θ_run Cert.KernelIdeal.defs _ _).mono (fun r h c => ⟨(Cert.KernelIdealProof.result_at m g h.1 c).trans ?_,
      Cert.KernelIdealProof.args_kept m g h.1 c⟩) (Cert.KernelIdealProof.run_main (F := Ideal) m g),
    (θ_run Cert.ReferenceIdeal.defs _ _).mono (fun r h => ⟨(h 0).1.trans (ReferenceRead.res_eq m' 0), (h 0).2⟩)
      (Cert.ReferenceIdeal.Value.run (F := Ideal) m' g')⟩
  exact ValueEqual.outAt_eq m _ _ _ _ _ _ (fun c => (hm c).1) (fun c => (hm c).2.1) (fun c => (hm c).2.2.1) (fun c => (hm c).2.2.2.1)
    (fun c => (hm c).2.2.2.2) hx hw hk' c

/-- All the claims together. -/
theorem claim : Cert.Claim :=
  ⟨Cert.Kernel.Gen.facts, Cert.KernelIdeal.Gen.facts, Cert.ReferenceIdeal.Gen.facts, facts_pre_kernel, facts_pre_reference,
    frame_kernel, frame_kernel_ideal, fun m ρ _ => frame_kernel_ideal m ρ trivial, frame_reference, fun m ρ _ => frame_reference m ρ trivial,
    trivial, algebraic⟩

end Cert.Proof

end
